-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 2048, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 2048, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = Layout.block ⟨3, ![2, 256, 512]⟩ ⟨3, ![2, 2048, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  bcast_S_S512x256 : S_.BroadcastsInDim S512x256 (![] : Fin 0 → Fin S512x256.rank)
  bcast_S_S2x256x4x64 : S_.BroadcastsInDim S2x256x4x64 (![] : Fin 0 → Fin S2x256x4x64.rank)

variable [Facts]

def fn {F : FTy → Type} [FloatOps F] (main_arg0 : FVec F S2x256x512 .f32) (main_arg1 : FVec F S512x256 .f32) (main_arg2 : FVec F S2x256x4x64 .f32) (main_arg3 : FVec F S2x256x4x64 .f32) (main_arg4 : FVec F S256x512 .f32) : IVec S2x256x512 1 × IVec S512x256 1 × IVec S2x256x4x64 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x256x4x64 .f32 := Host.absf main_arg2
  let main_cst_1 : FVec F S_ .f32 := constant S_ .f32 0x7F800000#32
  let main_v7 : FVec F S2x256x4x64 .f32 := broadcastInDim S2x256x4x64 ![] bcast_S_S2x256x4x64 main_cst_1
  let main_v8 : IVec S2x256x4x64 1 := cmpf .olt main_v6 main_v7
  (main_v2, main_v5, main_v8)
-- ==== Pre_finite_ReferenceIdeal.lean ====
abbrev S2x2048x512 : Shape := ⟨3, ![2, 2048, 512]⟩
abbrev S512x256 : Shape := ⟨2, ![512, 256]⟩
abbrev S2x2048x4x64 : Shape := ⟨4, ![2, 2048, 4, 64]⟩
abbrev S256x512 : Shape := ⟨2, ![256, 512]⟩
abbrev S_ : Shape := ⟨0, ![]⟩

class Facts : Prop where
  bcast_S_S2x2048x512 : S_.BroadcastsInDim S2x2048x512 (![] : Fin 0 → Fin S2x2048x512.rank)
  bcast_S_S512x256 : S_.BroadcastsInDim S512x256 (![] : Fin 0 → Fin S512x256.rank)
  bcast_S_S2x2048x4x64 : S_.BroadcastsInDim S2x2048x4x64 (![] : Fin 0 → Fin S2x2048x4x64.rank)

variable [Facts]

def fn {F : FTy → Type} [FloatOps F] (main_arg0 : FVec F S2x2048x512 .f32) (main_arg1 : FVec F S512x256 .f32) (main_arg2 : FVec F S2x2048x4x64 .f32) (main_arg3 : FVec F S2x2048x4x64 .f32) (main_arg4 : FVec F S256x512 .f32) : IVec S2x2048x512 1 × IVec S512x256 1 × IVec S2x2048x4x64 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x2048x4x64 .f32 := Host.absf main_arg2
  let main_cst_1 : FVec F S_ .f32 := constant S_ .f32 0x7F800000#32
  let main_v7 : FVec F S2x2048x4x64 .f32 := broadcastInDim S2x2048x4x64 ![] bcast_S_S2x2048x4x64 main_cst_1
  let main_v8 : IVec S2x2048x4x64 1 := cmpf .olt main_v6 main_v7
  (main_v2, main_v5, main_v8)
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S2x256x256 : Shape := ⟨3, ![2, 256, 256]⟩
abbrev S8x2x256x256 : Shape := ⟨4, ![8, 2, 256, 256]⟩
abbrev S2x7 : Shape := ⟨2, ![2, 7]⟩
abbrev S_ : Shape := ⟨0, ![]⟩
abbrev S256x1 : Shape := ⟨2, ![256, 1]⟩
abbrev S256x64 : Shape := ⟨2, ![256, 64]⟩
abbrev S1x1 : Shape := ⟨2, ![1, 1]⟩
abbrev S1x2x256x256 : Shape := ⟨4, ![1, 2, 256, 256]⟩
abbrev S512x512 : Shape := ⟨2, ![512, 512]⟩
abbrev S1x256x256 : Shape := ⟨3, ![1, 256, 256]⟩
abbrev S256x256 : Shape := ⟨2, ![256, 256]⟩
abbrev S256 : Shape := ⟨1, ![256]⟩
abbrev S1x1x256x256 : Shape := ⟨4, ![1, 1, 256, 256]⟩
abbrev S1x256x512 : Shape := ⟨3, ![1, 256, 512]⟩

abbrev nBuf : Space → Nat
  | .hbm => 10
  | .vmem => 8
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x4x64, .f32⟩
  | .hbm, ⟨3, _⟩ => ⟨S2x256x4x64, .f32⟩
  | .hbm, ⟨4, _⟩ => ⟨S256x512, .f32⟩
  | .hbm, ⟨5, _⟩ => ⟨S2x256x256, .f32⟩
  | .hbm, ⟨6, _⟩ => ⟨S2x256x256, .bf16⟩
  | .hbm, ⟨7, _⟩ => ⟨S2x256x256, .f32⟩
  | .hbm, ⟨8, _⟩ => ⟨S2x256x256, .bf16⟩
  | .hbm, ⟨9, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x256, .bf16⟩
  | .local _ .vmem, ⟨3, _⟩ => ⟨S2x256x256, .bf16⟩
  | .local _ .vmem, ⟨4, _⟩ => ⟨S256x512, .f32⟩
  | .local _ .vmem, ⟨5, _⟩ => ⟨S2x256x512, .f32⟩
  | .local _ .vmem, ⟨6, _⟩ => ⟨S8x2x256x256, .bf16⟩
  | .local _ .vmem, ⟨7, _⟩ => ⟨S8x2x256x256, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.subi v5 c1_i32_5
  let c8_i32_6 : BitVec 32 := 8#32
  let v13 : BitVec 32 := Scalar.addi v12 c8_i32_6
  let c8_i32_7 : BitVec 32 := 8#32
  let v14 : BitVec 32 := Scalar.remsi v13 c8_i32_7
  let c4_i32_8 : BitVec 32 := 4#32
  let v15 : BitVec 1 := Scalar.cmpi .slt v14 c4_i32_8
  let c11_i32_9 : BitVec 32 := 11#32
  let v16 : BitVec 32 := Scalar.subi c11_i32_9 v14
  let v17 : BitVec 32 := Scalar.select v15 v14 v16
  let c1_i32_21 : BitVec 32 := 1#32
  let v34 : BitVec 32 := Scalar.muli v17 c1_i32_21
  let v35 : BitVec 32 := Scalar.addi c0_i32 v34
  v35.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.addi v6 c8_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_23 : BitVec 32 := 1#32
  let v36 : BitVec 32 := Scalar.muli v11 c1_i32_23
  let v37 : BitVec 32 := Scalar.addi c0_i32_24 v36
  v37.toNat
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c1_i32_10 : BitVec 32 := 1#32
  let v19 : BitVec 1 := Scalar.cmpi .eq v18 c1_i32_10
  let c3_i32 : BitVec 32 := 3#32
  let v20 : BitVec 32 := Scalar.subi v5 c3_i32
  let c8_i32_11 : BitVec 32 := 8#32
  let v21 : BitVec 32 := Scalar.addi v20 c8_i32_11
  let c8_i32_12 : BitVec 32 := 8#32
  let v22 : BitVec 32 := Scalar.remsi v21 c8_i32_12
  let c4_i32_13 : BitVec 32 := 4#32
  let v23 : BitVec 1 := Scalar.cmpi .slt v22 c4_i32_13
  let c11_i32_14 : BitVec 32 := 11#32
  let v24 : BitVec 32 := Scalar.subi c11_i32_14 v22
  let v25 : BitVec 32 := Scalar.select v23 v22 v24
  let c3_i32_15 : BitVec 32 := 3#32
  let v26 : BitVec 32 := Scalar.addi v5 c3_i32_15
  let c8_i32_16 : BitVec 32 := 8#32
  let v27 : BitVec 32 := Scalar.addi v26 c8_i32_16
  let c8_i32_17 : BitVec 32 := 8#32
  let v28 : BitVec 32 := Scalar.remsi v27 c8_i32_17
  let c4_i32_18 : BitVec 32 := 4#32
  let v29 : BitVec 1 := Scalar.cmpi .slt v28 c4_i32_18
  let c11_i32_19 : BitVec 32 := 11#32
  let v30 : BitVec 32 := Scalar.subi c11_i32_19 v28
  let v31 : BitVec 32 := Scalar.select v29 v28 v30
  let v32 : BitVec 32 := Scalar.select v19 v25 v31
  let c1_i32_26 : BitVec 32 := 1#32
  let v38 : BitVec 32 := Scalar.muli v32 c1_i32_26
  let v39 : BitVec 32 := Scalar.addi c0_i32_27 v38
  v39.toNat
def k0_off1 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_58 : BitVec 32 := 0#32
  let c0_i32_59 : BitVec 32 := 0#32
  let c0_i32_60 : BitVec 32 := 0#32
  ![v2.toNat, 0, 0, 0]
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.addi v6 c8_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_56 : BitVec 32 := 1#32
  let v64 : BitVec 32 := Scalar.muli v11 c1_i32_56
  let v65 : BitVec 32 := Scalar.addi c0_i32_57 v64
  v65.toNat
def k0_dev5 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.subi v5 c1_i32_5
  let c8_i32_6 : BitVec 32 := 8#32
  let v13 : BitVec 32 := Scalar.addi v12 c8_i32_6
  let c8_i32_7 : BitVec 32 := 8#32
  let v14 : BitVec 32 := Scalar.remsi v13 c8_i32_7
  let c4_i32_8 : BitVec 32 := 4#32
  let v15 : BitVec 1 := Scalar.cmpi .slt v14 c4_i32_8
  let c11_i32_9 : BitVec 32 := 11#32
  let v16 : BitVec 32 := Scalar.subi c11_i32_9 v14
  let v17 : BitVec 32 := Scalar.select v15 v14 v16
  let c1_i32_65 : BitVec 32 := 1#32
  let v72 : BitVec 32 := Scalar.muli v17 c1_i32_65
  let v73 : BitVec 32 := Scalar.addi c0_i32_66 v72
  v73.toNat
def k0_dev6 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c1_i32_10 : BitVec 32 := 1#32
  let v19 : BitVec 1 := Scalar.cmpi .eq v18 c1_i32_10
  let c3_i32 : BitVec 32 := 3#32
  let v20 : BitVec 32 := Scalar.subi v5 c3_i32
  let c8_i32_11 : BitVec 32 := 8#32
  let v21 : BitVec 32 := Scalar.addi v20 c8_i32_11
  let c8_i32_12 : BitVec 32 := 8#32
  let v22 : BitVec 32 := Scalar.remsi v21 c8_i32_12
  let c4_i32_13 : BitVec 32 := 4#32
  let v23 : BitVec 1 := Scalar.cmpi .slt v22 c4_i32_13
  let c11_i32_14 : BitVec 32 := 11#32
  let v24 : BitVec 32 := Scalar.subi c11_i32_14 v22
  let v25 : BitVec 32 := Scalar.select v23 v22 v24
  let c3_i32_15 : BitVec 32 := 3#32
  let v26 : BitVec 32 := Scalar.addi v5 c3_i32_15
  let c8_i32_16 : BitVec 32 := 8#32
  let v27 : BitVec 32 := Scalar.addi v26 c8_i32_16
  let c8_i32_17 : BitVec 32 := 8#32
  let v28 : BitVec 32 := Scalar.remsi v27 c8_i32_17
  let c4_i32_18 : BitVec 32 := 4#32
  let v29 : BitVec 1 := Scalar.cmpi .slt v28 c4_i32_18
  let c11_i32_19 : BitVec 32 := 11#32
  let v30 : BitVec 32 := Scalar.subi c11_i32_19 v28
  let v31 : BitVec 32 := Scalar.select v29 v28 v30
  let v32 : BitVec 32 := Scalar.select v19 v25 v31
  let c1_i32_73 : BitVec 32 := 1#32
  let v80 : BitVec 32 := Scalar.muli v32 c1_i32_73
  let v81 : BitVec 32 := Scalar.addi c0_i32_74 v80
  v81.toNat
def k0_dev7 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.addi v6 c8_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_82 : BitVec 32 := 1#32
  let v88 : BitVec 32 := Scalar.muli v11 c1_i32_82
  let v89 : BitVec 32 := Scalar.addi c0_i32_83 v88
  v89.toNat
def k0_dev8 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.subi v5 c1_i32_5
  let c8_i32_6 : BitVec 32 := 8#32
  let v13 : BitVec 32 := Scalar.addi v12 c8_i32_6
  let c8_i32_7 : BitVec 32 := 8#32
  let v14 : BitVec 32 := Scalar.remsi v13 c8_i32_7
  let c4_i32_8 : BitVec 32 := 4#32
  let v15 : BitVec 1 := Scalar.cmpi .slt v14 c4_i32_8
  let c11_i32_9 : BitVec 32 := 11#32
  let v16 : BitVec 32 := Scalar.subi c11_i32_9 v14
  let v17 : BitVec 32 := Scalar.select v15 v14 v16
  let c1_i32_91 : BitVec 32 := 1#32
  let v96 : BitVec 32 := Scalar.muli v17 c1_i32_91
  let v97 : BitVec 32 := Scalar.addi c0_i32_92 v96
  v97.toNat
def k0_dev9 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c1_i32_10 : BitVec 32 := 1#32
  let v19 : BitVec 1 := Scalar.cmpi .eq v18 c1_i32_10
  let c3_i32 : BitVec 32 := 3#32
  let v20 : BitVec 32 := Scalar.subi v5 c3_i32
  let c8_i32_11 : BitVec 32 := 8#32
  let v21 : BitVec 32 := Scalar.addi v20 c8_i32_11
  let c8_i32_12 : BitVec 32 := 8#32
  let v22 : BitVec 32 := Scalar.remsi v21 c8_i32_12
  let c4_i32_13 : BitVec 32 := 4#32
  let v23 : BitVec 1 := Scalar.cmpi .slt v22 c4_i32_13
  let c11_i32_14 : BitVec 32 := 11#32
  let v24 : BitVec 32 := Scalar.subi c11_i32_14 v22
  let v25 : BitVec 32 := Scalar.select v23 v22 v24
  let c3_i32_15 : BitVec 32 := 3#32
  let v26 : BitVec 32 := Scalar.addi v5 c3_i32_15
  let c8_i32_16 : BitVec 32 := 8#32
  let v27 : BitVec 32 := Scalar.addi v26 c8_i32_16
  let c8_i32_17 : BitVec 32 := 8#32
  let v28 : BitVec 32 := Scalar.remsi v27 c8_i32_17
  let c4_i32_18 : BitVec 32 := 4#32
  let v29 : BitVec 1 := Scalar.cmpi .slt v28 c4_i32_18
  let c11_i32_19 : BitVec 32 := 11#32
  let v30 : BitVec 32 := Scalar.subi c11_i32_19 v28
  let v31 : BitVec 32 := Scalar.select v29 v28 v30
  let v32 : BitVec 32 := Scalar.select v19 v25 v31
  let c1_i32_100 : BitVec 32 := 1#32
  let v104 : BitVec 32 := Scalar.muli v32 c1_i32_100
  let v105 : BitVec 32 := Scalar.addi c0_i32_101 v104
  v105.toNat
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_239 : BitVec 32 := 1#32
  let v497 : BitVec 32 := Scalar.subi v5 c1_i32_239
  let c8_i32_240 : BitVec 32 := 8#32
  let v498 : BitVec 32 := Scalar.addi v497 c8_i32_240
  let c8_i32_241 : BitVec 32 := 8#32
  let v499 : BitVec 32 := Scalar.remsi v498 c8_i32_241
  let c4_i32_242 : BitVec 32 := 4#32
  let v500 : BitVec 1 := Scalar.cmpi .slt v499 c4_i32_242
  let c11_i32_243 : BitVec 32 := 11#32
  let v501 : BitVec 32 := Scalar.subi c11_i32_243 v499
  let v502 : BitVec 32 := Scalar.select v500 v499 v501
  let c0_i32_250 : BitVec 32 := 0#32
  let c0_i32_251 : BitVec 32 := 0#32
  let c0_i32_252 : BitVec 32 := 0#32
  ![v502.toNat, 0, 0, 0]
def k0_dev10 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.addi v6 c8_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_248 : BitVec 32 := 1#32
  let v503 : BitVec 32 := Scalar.muli v11 c1_i32_248
  let v504 : BitVec 32 := Scalar.addi c0_i32_249 v503
  v504.toNat
def k0_off3 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_261 : BitVec 32 := 1#32
  let v519 : BitVec 32 := Scalar.addi v5 c1_i32_261
  let c8_i32_262 : BitVec 32 := 8#32
  let v520 : BitVec 32 := Scalar.addi v519 c8_i32_262
  let c8_i32_263 : BitVec 32 := 8#32
  let v521 : BitVec 32 := Scalar.remsi v520 c8_i32_263
  let c4_i32_264 : BitVec 32 := 4#32
  let v522 : BitVec 1 := Scalar.cmpi .slt v521 c4_i32_264
  let c11_i32_265 : BitVec 32 := 11#32
  let v523 : BitVec 32 := Scalar.subi c11_i32_265 v521
  let v524 : BitVec 32 := Scalar.select v522 v521 v523
  let c0_i32_272 : BitVec 32 := 0#32
  let c0_i32_273 : BitVec 32 := 0#32
  let c0_i32_274 : BitVec 32 := 0#32
  ![v524.toNat, 0, 0, 0]
def k0_dev11 (d0 : Dev nD) : Nat :=
  let c0_i32_271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.subi v5 c1_i32_5
  let c8_i32_6 : BitVec 32 := 8#32
  let v13 : BitVec 32 := Scalar.addi v12 c8_i32_6
  let c8_i32_7 : BitVec 32 := 8#32
  let v14 : BitVec 32 := Scalar.remsi v13 c8_i32_7
  let c4_i32_8 : BitVec 32 := 4#32
  let v15 : BitVec 1 := Scalar.cmpi .slt v14 c4_i32_8
  let c11_i32_9 : BitVec 32 := 11#32
  let v16 : BitVec 32 := Scalar.subi c11_i32_9 v14
  let v17 : BitVec 32 := Scalar.select v15 v14 v16
  let c1_i32_270 : BitVec 32 := 1#32
  let v525 : BitVec 32 := Scalar.muli v17 c1_i32_270
  let v526 : BitVec 32 := Scalar.addi c0_i32_271 v525
  v526.toNat
def k0_off4 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c1_i32_10 : BitVec 32 := 1#32
  let v19 : BitVec 1 := Scalar.cmpi .eq v18 c1_i32_10
  let c1_i32_224 : BitVec 32 := 1#32
  let v478 : BitVec 32 := Scalar.addi v5 c1_i32_224
  let c8_i32_225 : BitVec 32 := 8#32
  let v479 : BitVec 32 := Scalar.addi v478 c8_i32_225
  let c8_i32_226 : BitVec 32 := 8#32
  let v480 : BitVec 32 := Scalar.remsi v479 c8_i32_226
  let c4_i32_227 : BitVec 32 := 4#32
  let v481 : BitVec 1 := Scalar.cmpi .slt v480 c4_i32_227
  let c11_i32_228 : BitVec 32 := 11#32
  let v482 : BitVec 32 := Scalar.subi c11_i32_228 v480
  let v483 : BitVec 32 := Scalar.select v481 v480 v482
  let c1_i32_229 : BitVec 32 := 1#32
  let v484 : BitVec 32 := Scalar.subi v5 c1_i32_229
  let c8_i32_230 : BitVec 32 := 8#32
  let v485 : BitVec 32 := Scalar.addi v484 c8_i32_230
  let c8_i32_231 : BitVec 32 := 8#32
  let v486 : BitVec 32 := Scalar.remsi v485 c8_i32_231
  let c4_i32_232 : BitVec 32 := 4#32
  let v487 : BitVec 1 := Scalar.cmpi .slt v486 c4_i32_232
  let c11_i32_233 : BitVec 32 := 11#32
  let v488 : BitVec 32 := Scalar.subi c11_i32_233 v486
  let v489 : BitVec 32 := Scalar.select v487 v486 v488
  let v490 : BitVec 32 := Scalar.select v19 v483 v489
  let c0_i32_283 : BitVec 32 := 0#32
  let c0_i32_284 : BitVec 32 := 0#32
  let c0_i32_285 : BitVec 32 := 0#32
  ![v490.toNat, 0, 0, 0]
def k0_dev12 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c1_i32_10 : BitVec 32 := 1#32
  let v19 : BitVec 1 := Scalar.cmpi .eq v18 c1_i32_10
  let c3_i32 : BitVec 32 := 3#32
  let v20 : BitVec 32 := Scalar.subi v5 c3_i32
  let c8_i32_11 : BitVec 32 := 8#32
  let v21 : BitVec 32 := Scalar.addi v20 c8_i32_11
  let c8_i32_12 : BitVec 32 := 8#32
  let v22 : BitVec 32 := Scalar.remsi v21 c8_i32_12
  let c4_i32_13 : BitVec 32 := 4#32
  let v23 : BitVec 1 := Scalar.cmpi .slt v22 c4_i32_13
  let c11_i32_14 : BitVec 32 := 11#32
  let v24 : BitVec 32 := Scalar.subi c11_i32_14 v22
  let v25 : BitVec 32 := Scalar.select v23 v22 v24
  let c3_i32_15 : BitVec 32 := 3#32
  let v26 : BitVec 32 := Scalar.addi v5 c3_i32_15
  let c8_i32_16 : BitVec 32 := 8#32
  let v27 : BitVec 32 := Scalar.addi v26 c8_i32_16
  let c8_i32_17 : BitVec 32 := 8#32
  let v28 : BitVec 32 := Scalar.remsi v27 c8_i32_17
  let c4_i32_18 : BitVec 32 := 4#32
  let v29 : BitVec 1 := Scalar.cmpi .slt v28 c4_i32_18
  let c11_i32_19 : BitVec 32 := 11#32
  let v30 : BitVec 32 := Scalar.subi c11_i32_19 v28
  let v31 : BitVec 32 := Scalar.select v29 v28 v30
  let v32 : BitVec 32 := Scalar.select v19 v25 v31
  let c1_i32_281 : BitVec 32 := 1#32
  let v535 : BitVec 32 := Scalar.muli v32 c1_i32_281
  let v536 : BitVec 32 := Scalar.addi c0_i32_282 v535
  v536.toNat
def k0_dev13 (d0 : Dev nD) : Nat :=
  let c0_i32_332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.addi v6 c8_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_331 : BitVec 32 := 1#32
  let v582 : BitVec 32 := Scalar.muli v11 c1_i32_331
  let v583 : BitVec 32 := Scalar.addi c0_i32_332 v582
  v583.toNat
def k0_dev14 (d0 : Dev nD) : Nat :=
  let c0_i32_354 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.subi v5 c1_i32_5
  let c8_i32_6 : BitVec 32 := 8#32
  let v13 : BitVec 32 := Scalar.addi v12 c8_i32_6
  let c8_i32_7 : BitVec 32 := 8#32
  let v14 : BitVec 32 := Scalar.remsi v13 c8_i32_7
  let c4_i32_8 : BitVec 32 := 4#32
  let v15 : BitVec 1 := Scalar.cmpi .slt v14 c4_i32_8
  let c11_i32_9 : BitVec 32 := 11#32
  let v16 : BitVec 32 := Scalar.subi c11_i32_9 v14
  let v17 : BitVec 32 := Scalar.select v15 v14 v16
  let c1_i32_353 : BitVec 32 := 1#32
  let v604 : BitVec 32 := Scalar.muli v17 c1_i32_353
  let v605 : BitVec 32 := Scalar.addi c0_i32_354 v604
  v605.toNat
def k0_dev15 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c1_i32_10 : BitVec 32 := 1#32
  let v19 : BitVec 1 := Scalar.cmpi .eq v18 c1_i32_10
  let c3_i32 : BitVec 32 := 3#32
  let v20 : BitVec 32 := Scalar.subi v5 c3_i32
  let c8_i32_11 : BitVec 32 := 8#32
  let v21 : BitVec 32 := Scalar.addi v20 c8_i32_11
  let c8_i32_12 : BitVec 32 := 8#32
  let v22 : BitVec 32 := Scalar.remsi v21 c8_i32_12
  let c4_i32_13 : BitVec 32 := 4#32
  let v23 : BitVec 1 := Scalar.cmpi .slt v22 c4_i32_13
  let c11_i32_14 : BitVec 32 := 11#32
  let v24 : BitVec 32 := Scalar.subi c11_i32_14 v22
  let v25 : BitVec 32 := Scalar.select v23 v22 v24
  let c3_i32_15 : BitVec 32 := 3#32
  let v26 : BitVec 32 := Scalar.addi v5 c3_i32_15
  let c8_i32_16 : BitVec 32 := 8#32
  let v27 : BitVec 32 := Scalar.addi v26 c8_i32_16
  let c8_i32_17 : BitVec 32 := 8#32
  let v28 : BitVec 32 := Scalar.remsi v27 c8_i32_17
  let c4_i32_18 : BitVec 32 := 4#32
  let v29 : BitVec 1 := Scalar.cmpi .slt v28 c4_i32_18
  let c11_i32_19 : BitVec 32 := 11#32
  let v30 : BitVec 32 := Scalar.subi c11_i32_19 v28
  let v31 : BitVec 32 := Scalar.select v29 v28 v30
  let v32 : BitVec 32 := Scalar.select v19 v25 v31
  let c1_i32_365 : BitVec 32 := 1#32
  let v614 : BitVec 32 := Scalar.muli v32 c1_i32_365
  let v615 : BitVec 32 := Scalar.addi c0_i32_366 v614
  v615.toNat
def k0_off5 (d0 : Dev nD) (c1_i32_378 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v630 : BitVec 32 := Scalar.subi v5 c1_i32_378
  let c8_i32_379 : BitVec 32 := 8#32
  let v631 : BitVec 32 := Scalar.addi v630 c8_i32_379
  let c8_i32_380 : BitVec 32 := 8#32
  let v632 : BitVec 32 := Scalar.remsi v631 c8_i32_380
  let c4_i32_381 : BitVec 32 := 4#32
  let v633 : BitVec 1 := Scalar.cmpi .slt v632 c4_i32_381
  let c11_i32_382 : BitVec 32 := 11#32
  let v634 : BitVec 32 := Scalar.subi c11_i32_382 v632
  let v635 : BitVec 32 := Scalar.select v633 v632 v634
  let v636 : Index := Scalar.indexCast v635
  let c0_383 : Index := 0#32
  let c0_384 : Index := 0#32
  let c0_385 : Index := 0#32
  ![v636.toNat, 0, 0, 0]
def k0_off6 (d0 : Dev nD) (c1_i32_378 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v630 : BitVec 32 := Scalar.subi v5 c1_i32_378
  let c8_i32_379 : BitVec 32 := 8#32
  let v631 : BitVec 32 := Scalar.addi v630 c8_i32_379
  let c8_i32_380 : BitVec 32 := 8#32
  let v632 : BitVec 32 := Scalar.remsi v631 c8_i32_380
  let c4_i32_381 : BitVec 32 := 4#32
  let v633 : BitVec 1 := Scalar.cmpi .slt v632 c4_i32_381
  let c11_i32_382 : BitVec 32 := 11#32
  let v634 : BitVec 32 := Scalar.subi c11_i32_382 v632
  let v635 : BitVec 32 := Scalar.select v633 v632 v634
  let v812 : Index := Scalar.indexCast v635
  let c1_432 : Index := 1#32
  let c0_433 : Index := 0#32
  let c0_434 : Index := 0#32
  ![v812.toNat, 1, 0, 0]
def k0_off7 (d0 : Dev nD) (c1_i32_486 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v994 : BitVec 32 := Scalar.addi v5 c1_i32_486
  let c8_i32_487 : BitVec 32 := 8#32
  let v995 : BitVec 32 := Scalar.addi v994 c8_i32_487
  let c8_i32_488 : BitVec 32 := 8#32
  let v996 : BitVec 32 := Scalar.remsi v995 c8_i32_488
  let c4_i32_489 : BitVec 32 := 4#32
  let v997 : BitVec 1 := Scalar.cmpi .slt v996 c4_i32_489
  let c11_i32_490 : BitVec 32 := 11#32
  let v998 : BitVec 32 := Scalar.subi c11_i32_490 v996
  let v999 : BitVec 32 := Scalar.select v997 v996 v998
  let v1000 : Index := Scalar.indexCast v999
  let c0_491 : Index := 0#32
  let c0_492 : Index := 0#32
  let c0_493 : Index := 0#32
  ![v1000.toNat, 0, 0, 0]
def k0_off7_at (r : Fin 3) : BitVec 32 :=
  if r.val < 1 then
    1#32
  else
    if r.val < 2 then
      2#32
    else
      4#32
def k0_off8 (d0 : Dev nD) (c1_i32_486 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v994 : BitVec 32 := Scalar.addi v5 c1_i32_486
  let c8_i32_487 : BitVec 32 := 8#32
  let v995 : BitVec 32 := Scalar.addi v994 c8_i32_487
  let c8_i32_488 : BitVec 32 := 8#32
  let v996 : BitVec 32 := Scalar.remsi v995 c8_i32_488
  let c4_i32_489 : BitVec 32 := 4#32
  let v997 : BitVec 1 := Scalar.cmpi .slt v996 c4_i32_489
  let c11_i32_490 : BitVec 32 := 11#32
  let v998 : BitVec 32 := Scalar.subi c11_i32_490 v996
  let v999 : BitVec 32 := Scalar.select v997 v996 v998
  let v1176 : Index := Scalar.indexCast v999
  let c1_540 : Index := 1#32
  let c0_541 : Index := 0#32
  let c0_542 : Index := 0#32
  ![v1176.toNat, 1, 0, 0]
def k0_off8_at (r : Fin 3) : BitVec 32 :=
  if r.val < 1 then
    1#32
  else
    if r.val < 2 then
      2#32
    else
      4#32
def k0_off9 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c1_i32_10 : BitVec 32 := 1#32
  let v19 : BitVec 1 := Scalar.cmpi .eq v18 c1_i32_10
  let c3_i32 : BitVec 32 := 3#32
  let v20 : BitVec 32 := Scalar.subi v5 c3_i32
  let c8_i32_11 : BitVec 32 := 8#32
  let v21 : BitVec 32 := Scalar.addi v20 c8_i32_11
  let c8_i32_12 : BitVec 32 := 8#32
  let v22 : BitVec 32 := Scalar.remsi v21 c8_i32_12
  let c4_i32_13 : BitVec 32 := 4#32
  let v23 : BitVec 1 := Scalar.cmpi .slt v22 c4_i32_13
  let c11_i32_14 : BitVec 32 := 11#32
  let v24 : BitVec 32 := Scalar.subi c11_i32_14 v22
  let v25 : BitVec 32 := Scalar.select v23 v22 v24
  let c3_i32_15 : BitVec 32 := 3#32
  let v26 : BitVec 32 := Scalar.addi v5 c3_i32_15
  let c8_i32_16 : BitVec 32 := 8#32
  let v27 : BitVec 32 := Scalar.addi v26 c8_i32_16
  let c8_i32_17 : BitVec 32 := 8#32
  let v28 : BitVec 32 := Scalar.remsi v27 c8_i32_17
  let c4_i32_18 : BitVec 32 := 4#32
  let v29 : BitVec 1 := Scalar.cmpi .slt v28 c4_i32_18
  let c11_i32_19 : BitVec 32 := 11#32
  let v30 : BitVec 32 := Scalar.subi c11_i32_19 v28
  let v31 : BitVec 32 := Scalar.select v29 v28 v30
  let v32 : BitVec 32 := Scalar.select v19 v25 v31
  let v1364 : Index := Scalar.indexCast v32
  let c0_607 : Index := 0#32
  let c0_608 : Index := 0#32
  let c0_609 : Index := 0#32
  ![v1364.toNat, 0, 0, 0]
def k0_off10 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c1_i32_10 : BitVec 32 := 1#32
  let v19 : BitVec 1 := Scalar.cmpi .eq v18 c1_i32_10
  let c3_i32 : BitVec 32 := 3#32
  let v20 : BitVec 32 := Scalar.subi v5 c3_i32
  let c8_i32_11 : BitVec 32 := 8#32
  let v21 : BitVec 32 := Scalar.addi v20 c8_i32_11
  let c8_i32_12 : BitVec 32 := 8#32
  let v22 : BitVec 32 := Scalar.remsi v21 c8_i32_12
  let c4_i32_13 : BitVec 32 := 4#32
  let v23 : BitVec 1 := Scalar.cmpi .slt v22 c4_i32_13
  let c11_i32_14 : BitVec 32 := 11#32
  let v24 : BitVec 32 := Scalar.subi c11_i32_14 v22
  let v25 : BitVec 32 := Scalar.select v23 v22 v24
  let c3_i32_15 : BitVec 32 := 3#32
  let v26 : BitVec 32 := Scalar.addi v5 c3_i32_15
  let c8_i32_16 : BitVec 32 := 8#32
  let v27 : BitVec 32 := Scalar.addi v26 c8_i32_16
  let c8_i32_17 : BitVec 32 := 8#32
  let v28 : BitVec 32 := Scalar.remsi v27 c8_i32_17
  let c4_i32_18 : BitVec 32 := 4#32
  let v29 : BitVec 1 := Scalar.cmpi .slt v28 c4_i32_18
  let c11_i32_19 : BitVec 32 := 11#32
  let v30 : BitVec 32 := Scalar.subi c11_i32_19 v28
  let v31 : BitVec 32 := Scalar.select v29 v28 v30
  let v32 : BitVec 32 := Scalar.select v19 v25 v31
  let v1540 : Index := Scalar.indexCast v32
  let c1_656 : Index := 1#32
  let c0_657 : Index := 0#32
  let c0_658 : Index := 0#32
  ![v1540.toNat, 1, 0, 0]
def k0_off11 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c1_i32_10 : BitVec 32 := 1#32
  let v19 : BitVec 1 := Scalar.cmpi .eq v18 c1_i32_10
  let c2_i32_729 : BitVec 32 := 2#32
  let v1732 : BitVec 32 := Scalar.subi v5 c2_i32_729
  let c8_i32_730 : BitVec 32 := 8#32
  let v1733 : BitVec 32 := Scalar.addi v1732 c8_i32_730
  let c8_i32_731 : BitVec 32 := 8#32
  let v1734 : BitVec 32 := Scalar.remsi v1733 c8_i32_731
  let c4_i32_732 : BitVec 32 := 4#32
  let v1735 : BitVec 1 := Scalar.cmpi .slt v1734 c4_i32_732
  let c11_i32_733 : BitVec 32 := 11#32
  let v1736 : BitVec 32 := Scalar.subi c11_i32_733 v1734
  let v1737 : BitVec 32 := Scalar.select v1735 v1734 v1736
  let c2_i32_734 : BitVec 32 := 2#32
  let v1738 : BitVec 32 := Scalar.addi v5 c2_i32_734
  let c8_i32_735 : BitVec 32 := 8#32
  let v1739 : BitVec 32 := Scalar.addi v1738 c8_i32_735
  let c8_i32_736 : BitVec 32 := 8#32
  let v1740 : BitVec 32 := Scalar.remsi v1739 c8_i32_736
  let c4_i32_737 : BitVec 32 := 4#32
  let v1741 : BitVec 1 := Scalar.cmpi .slt v1740 c4_i32_737
  let c11_i32_738 : BitVec 32 := 11#32
  let v1742 : BitVec 32 := Scalar.subi c11_i32_738 v1740
  let v1743 : BitVec 32 := Scalar.select v1741 v1740 v1742
  let v1744 : BitVec 32 := Scalar.select v19 v1737 v1743
  let c0_i32_745 : BitVec 32 := 0#32
  let c0_i32_746 : BitVec 32 := 0#32
  let c0_i32_747 : BitVec 32 := 0#32
  ![v1744.toNat, 0, 0, 0]
def k0_dev16 (d0 : Dev nD) : Nat :=
  let c0_i32_744 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c1_i32_10 : BitVec 32 := 1#32
  let v19 : BitVec 1 := Scalar.cmpi .eq v18 c1_i32_10
  let c1_i32_0 : BitVec 32 := 1#32
  let v6 : BitVec 32 := Scalar.addi v5 c1_i32_0
  let c8_i32_1 : BitVec 32 := 8#32
  let v7 : BitVec 32 := Scalar.addi v6 c8_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_5 : BitVec 32 := 1#32
  let v12 : BitVec 32 := Scalar.subi v5 c1_i32_5
  let c8_i32_6 : BitVec 32 := 8#32
  let v13 : BitVec 32 := Scalar.addi v12 c8_i32_6
  let c8_i32_7 : BitVec 32 := 8#32
  let v14 : BitVec 32 := Scalar.remsi v13 c8_i32_7
  let c4_i32_8 : BitVec 32 := 4#32
  let v15 : BitVec 1 := Scalar.cmpi .slt v14 c4_i32_8
  let c11_i32_9 : BitVec 32 := 11#32
  let v16 : BitVec 32 := Scalar.subi c11_i32_9 v14
  let v17 : BitVec 32 := Scalar.select v15 v14 v16
  let v1745 : BitVec 32 := Scalar.select v19 v11 v17
  let c1_i32_743 : BitVec 32 := 1#32
  let v1746 : BitVec 32 := Scalar.muli v1745 c1_i32_743
  let v1747 : BitVec 32 := Scalar.addi c0_i32_744 v1746
  v1747.toNat
def k0_dev17 (d0 : Dev nD) : Nat :=
  let c0_i32_790 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c1_i32_10 : BitVec 32 := 1#32
  let v19 : BitVec 1 := Scalar.cmpi .eq v18 c1_i32_10
  let c1_i32_0 : BitVec 32 := 1#32
  let v6 : BitVec 32 := Scalar.addi v5 c1_i32_0
  let c8_i32_1 : BitVec 32 := 8#32
  let v7 : BitVec 32 := Scalar.addi v6 c8_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_5 : BitVec 32 := 1#32
  let v12 : BitVec 32 := Scalar.subi v5 c1_i32_5
  let c8_i32_6 : BitVec 32 := 8#32
  let v13 : BitVec 32 := Scalar.addi v12 c8_i32_6
  let c8_i32_7 : BitVec 32 := 8#32
  let v14 : BitVec 32 := Scalar.remsi v13 c8_i32_7
  let c4_i32_8 : BitVec 32 := 4#32
  let v15 : BitVec 1 := Scalar.cmpi .slt v14 c4_i32_8
  let c11_i32_9 : BitVec 32 := 11#32
  let v16 : BitVec 32 := Scalar.subi c11_i32_9 v14
  let v17 : BitVec 32 := Scalar.select v15 v14 v16
  let v1785 : BitVec 32 := Scalar.select v19 v11 v17
  let c1_i32_789 : BitVec 32 := 1#32
  let v1786 : BitVec 32 := Scalar.muli v1785 c1_i32_789
  let v1787 : BitVec 32 := Scalar.addi c0_i32_790 v1786
  v1787.toNat
def k0_off12 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c1_i32_10 : BitVec 32 := 1#32
  let v19 : BitVec 1 := Scalar.cmpi .eq v18 c1_i32_10
  let c3_i32_1169 : BitVec 32 := 3#32
  let v2920 : BitVec 32 := Scalar.addi v5 c3_i32_1169
  let c8_i32_1170 : BitVec 32 := 8#32
  let v2921 : BitVec 32 := Scalar.addi v2920 c8_i32_1170
  let c8_i32_1171 : BitVec 32 := 8#32
  let v2922 : BitVec 32 := Scalar.remsi v2921 c8_i32_1171
  let c4_i32_1172 : BitVec 32 := 4#32
  let v2923 : BitVec 1 := Scalar.cmpi .slt v2922 c4_i32_1172
  let c11_i32_1173 : BitVec 32 := 11#32
  let v2924 : BitVec 32 := Scalar.subi c11_i32_1173 v2922
  let v2925 : BitVec 32 := Scalar.select v2923 v2922 v2924
  let c3_i32_1174 : BitVec 32 := 3#32
  let v2926 : BitVec 32 := Scalar.subi v5 c3_i32_1174
  let c8_i32_1175 : BitVec 32 := 8#32
  let v2927 : BitVec 32 := Scalar.addi v2926 c8_i32_1175
  let c8_i32_1176 : BitVec 32 := 8#32
  let v2928 : BitVec 32 := Scalar.remsi v2927 c8_i32_1176
  let c4_i32_1177 : BitVec 32 := 4#32
  let v2929 : BitVec 1 := Scalar.cmpi .slt v2928 c4_i32_1177
  let c11_i32_1178 : BitVec 32 := 11#32
  let v2930 : BitVec 32 := Scalar.subi c11_i32_1178 v2928
  let v2931 : BitVec 32 := Scalar.select v2929 v2928 v2930
  let v2932 : BitVec 32 := Scalar.select v19 v2925 v2931
  let v2933 : Index := Scalar.indexCast v2932
  let c0_1179 : Index := 0#32
  let c0_1180 : Index := 0#32
  let c0_1181 : Index := 0#32
  ![v2933.toNat, 0, 0, 0]
def k0_off13 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c1_i32_10 : BitVec 32 := 1#32
  let v19 : BitVec 1 := Scalar.cmpi .eq v18 c1_i32_10
  let c3_i32_1169 : BitVec 32 := 3#32
  let v2920 : BitVec 32 := Scalar.addi v5 c3_i32_1169
  let c8_i32_1170 : BitVec 32 := 8#32
  let v2921 : BitVec 32 := Scalar.addi v2920 c8_i32_1170
  let c8_i32_1171 : BitVec 32 := 8#32
  let v2922 : BitVec 32 := Scalar.remsi v2921 c8_i32_1171
  let c4_i32_1172 : BitVec 32 := 4#32
  let v2923 : BitVec 1 := Scalar.cmpi .slt v2922 c4_i32_1172
  let c11_i32_1173 : BitVec 32 := 11#32
  let v2924 : BitVec 32 := Scalar.subi c11_i32_1173 v2922
  let v2925 : BitVec 32 := Scalar.select v2923 v2922 v2924
  let c3_i32_1174 : BitVec 32 := 3#32
  let v2926 : BitVec 32 := Scalar.subi v5 c3_i32_1174
  let c8_i32_1175 : BitVec 32 := 8#32
  let v2927 : BitVec 32 := Scalar.addi v2926 c8_i32_1175
  let c8_i32_1176 : BitVec 32 := 8#32
  let v2928 : BitVec 32 := Scalar.remsi v2927 c8_i32_1176
  let c4_i32_1177 : BitVec 32 := 4#32
  let v2929 : BitVec 1 := Scalar.cmpi .slt v2928 c4_i32_1177
  let c11_i32_1178 : BitVec 32 := 11#32
  let v2930 : BitVec 32 := Scalar.subi c11_i32_1178 v2928
  let v2931 : BitVec 32 := Scalar.select v2929 v2928 v2930
  let v2932 : BitVec 32 := Scalar.select v19 v2925 v2931
  let v3109 : Index := Scalar.indexCast v2932
  let c1_1228 : Index := 1#32
  let c0_1229 : Index := 0#32
  let c0_1230 : Index := 0#32
  ![v3109.toNat, 1, 0, 0]
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x2048x512 : Shape := ⟨3, ![2, 2048, 512]⟩
abbrev S512x256 : Shape := ⟨2, ![512, 256]⟩
abbrev S2x2048x4x64 : Shape := ⟨4, ![2, 2048, 4, 64]⟩
abbrev S256x512 : Shape := ⟨2, ![256, 512]⟩
abbrev S2x2048x256 : Shape := ⟨3, ![2, 2048, 256]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S2x4x2048x2048 : Shape := ⟨4, ![2, 4, 2048, 2048]⟩
abbrev S1x1x2048x2048 : Shape := ⟨4, ![1, 1, 2048, 2048]⟩
abbrev S2x4x2048 : Shape := ⟨3, ![2, 4, 2048]⟩
abbrev S2x4x2048x1 : Shape := ⟨4, ![2, 4, 2048, 1]⟩
abbrev S1x1x2048x1 : Shape := ⟨4, ![1, 1, 2048, 1]⟩
abbrev S2x4x64x2048 : Shape := ⟨4, ![2, 4, 64, 2048]⟩

abbrev nBuf : Space → Nat
  | .hbm => 123
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S512x256, .f32⟩
  | .hbm, ⟨2, _⟩ => ⟨S2x2048x4x64, .f32⟩
  | .hbm, ⟨3, _⟩ => ⟨S2x2048x4x64, .f32⟩
  | .hbm, ⟨4, _⟩ => ⟨S256x512, .f32⟩
  | .hbm, ⟨5, _⟩ => ⟨S2x2048x256, .f32⟩
  | .hbm, ⟨6, _⟩ => ⟨S2x2048x4x64, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S2048, .i32⟩
  | .hbm, ⟨28, _⟩ => ⟨S_, .i32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S1x2048, .i32⟩
  | .hbm, ⟨47, _⟩ => ⟨S2048x2048, .i32⟩
  | .hbm, ⟨48, _⟩ => ⟨S2048x2048, .i32⟩
  | .hbm, ⟨49, _⟩ => ⟨S2048x2048, .i1⟩
  | .hbm, ⟨50, _⟩ => ⟨S_, .i32⟩
  | .hbm, ⟨51, _⟩ => ⟨S1x2048, .i32⟩
  | .hbm, ⟨52, _⟩ => ⟨S1x2048, .i1⟩
  | .hbm, ⟨53, _⟩ => ⟨S2048x2048, .i1⟩
  | .hbm, ⟨54, _⟩ => ⟨S2048x2048, .i1⟩
  | .hbm, ⟨55, _⟩ => ⟨S2048x2048, .i32⟩
  | .hbm, ⟨56, _⟩ => ⟨S2048x2048, .i32⟩
  | .hbm, ⟨57, _⟩ => ⟨S2048x2048, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S2048x2048, .i32⟩
  | .hbm, ⟨65, _⟩ => ⟨S2048x2048, .i32⟩
  | .hbm, ⟨66, _⟩ => ⟨S_, .i32⟩
  | .hbm, ⟨67, _⟩ => ⟨S2048x2048, .i32⟩
  | .hbm, ⟨68, _⟩ => ⟨S2048x2048, .i1⟩
  | .hbm, ⟨69, _⟩ => ⟨S_, .i32⟩
  | .hbm, ⟨70, _⟩ => ⟨S2048x2048, .i32⟩
  | .hbm, ⟨71, _⟩ => ⟨S2048x2048, .i1⟩
  | .hbm, ⟨72, _⟩ => ⟨S_, .i32⟩
  | .hbm, ⟨73, _⟩ => ⟨S_, .i1⟩
  | .hbm, ⟨74, _⟩ => ⟨S2048x2048, .i1⟩
  | .hbm, ⟨75, _⟩ => ⟨S2048x2048, .i1⟩
  | .hbm, ⟨76, _⟩ => ⟨S2048x2048, .i1⟩
  | .hbm, ⟨77, _⟩ => ⟨S2048x2048, .i32⟩
  | .hbm, ⟨78, _⟩ => ⟨S2048x2048, .i32⟩
  | .hbm, ⟨79, _⟩ => ⟨S2048x2048, .i32⟩
  | .hbm, ⟨80, _⟩ => ⟨S_, .i32⟩
  | .hbm, ⟨81, _⟩ => ⟨S2048x2048, .i32⟩
  | .hbm, ⟨82, _⟩ => ⟨S2048x2048, .i1⟩
  | .hbm, ⟨83, _⟩ => ⟨S2048x2048, .i1⟩
  | .hbm, ⟨84, _⟩ => ⟨S2x4x2048x2048, .f32⟩
  | .hbm, ⟨85, _⟩ => ⟨S_, .f32⟩
  | .hbm, ⟨86, _⟩ => ⟨S2x4x2048x2048, .f32⟩
  | .hbm, ⟨87, _⟩ => ⟨S2x4x2048x2048, .f32⟩
  | .hbm, ⟨88, _⟩ => ⟨S1x1x2048x2048, .i1⟩
  | .hbm, ⟨89, _⟩ => ⟨S_, .f32⟩
  | .hbm, ⟨90, _⟩ => ⟨S_, .f32⟩
  | .hbm, ⟨91, _⟩ => ⟨S2x4x2048x2048, .i1⟩
  | .hbm, ⟨92, _⟩ => ⟨S2x4x2048x2048, .f32⟩
  | .hbm, ⟨93, _⟩ => ⟨S2x4x2048x2048, .f32⟩
  | .hbm, ⟨94, _⟩ => ⟨S_, .f32⟩
  | .hbm, ⟨95, _⟩ => ⟨S2x4x2048, .f32⟩
  | .hbm, ⟨96, _⟩ => ⟨S2x4x2048x1, .f32⟩
  | .hbm, ⟨97, _⟩ => ⟨S2x4x2048x2048, .f32⟩
  | .hbm, ⟨98, _⟩ => ⟨S2x4x2048x2048, .f32⟩
  | .hbm, ⟨99, _⟩ => ⟨S2x4x2048x2048, .f32⟩
  | .hbm, ⟨100, _⟩ => ⟨S_, .i1⟩
  | .hbm, ⟨101, _⟩ => ⟨S2048, .i1⟩
  | .hbm, ⟨102, _⟩ => ⟨S1x1x2048x1, .i1⟩
  | .hbm, ⟨103, _⟩ => ⟨S_, .f32⟩
  | .hbm, ⟨104, _⟩ => ⟨S2x4x2048, .f32⟩
  | .hbm, ⟨105, _⟩ => ⟨S2x4x2048x1, .f32⟩
  | .hbm, ⟨106, _⟩ => ⟨S_, .f32⟩
  | .hbm, ⟨107, _⟩ => ⟨S_, .f32⟩
  | .hbm, ⟨108, _⟩ => ⟨S2x4x2048x1, .i1⟩
  | .hbm, ⟨109, _⟩ => ⟨S2x4x2048x1, .f32⟩
  | .hbm, ⟨110, _⟩ => ⟨S2x4x2048x1, .f32⟩
  | .hbm, ⟨111, _⟩ => ⟨S2x4x2048x2048, .f32⟩
  | .hbm, ⟨112, _⟩ => ⟨S2x4x2048x2048, .f32⟩
  | .hbm, ⟨113, _⟩ => ⟨S1x1x2048x1, .i1⟩
  | .hbm, ⟨114, _⟩ => ⟨S_, .f32⟩
  | .hbm, ⟨115, _⟩ => ⟨S_, .f32⟩
  | .hbm, ⟨116, _⟩ => ⟨S2x4x2048x2048, .i1⟩
  | .hbm, ⟨117, _⟩ => ⟨S2x4x2048x2048, .f32⟩
  | .hbm, ⟨118, _⟩ => ⟨S2x4x2048x2048, .f32⟩
  | .hbm, ⟨119, _⟩ => ⟨S2x4x64x2048, .f32⟩
  | .hbm, ⟨120, _⟩ => ⟨S2x2048x4x64, .f32⟩
  | .hbm, ⟨121, _⟩ => ⟨S2x2048x256, .f32⟩
  | .hbm, ⟨122, _⟩ => ⟨S2x2048x512, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Bsa.Vals.lean ====
/- The values the kernel computes, as functions of the arrays it reads: the mask of one chunk, the
   scores of one head, one step of the running softmax, and the output rows. Over any float values. -/
module

public import proofs.«01_k».proof.Proof.Gen.KernelIdeal

@[expose] public section

noncomputable section

namespace Bsa

open Idealize.ShloMosaic Idealize.SL.Sem Cert.KernelIdeal Cert.KernelIdeal.Gen

variable {F : FTy → Type} [FloatOps F]

/-- The running softmax state of one batch entry and head: row maximum, denominator, numerator. -/
abbrev Row (F : FTy → Type) := FVec F S256x1 .f32 × FVec F S256x1 .f32 × FVec F S256x64 .f32

/-- The state of all batch entries and heads. -/
abbrev St (F : FTy → Type) := Fin 2 → Fin 4 → Row F

/-- Block number of each position, on the device with number `o`: position / 64 + 4 o, the
    quotient rounded towards minus infinity as the program expands it. -/
def blockNo (i : IVec S256x256 32) (o : BitVec 32) : IVec S256x256 32 :=
  addi
    (select
      (andi
        (cmpi .ne
          (subi (extui 32 (cmpi .sgt i (broadcast S256x256 0#32)) natLt_1_32)
            (extui 32 (cmpi .slt i (broadcast S256x256 0#32)) natLt_1_32))
          (broadcast S256x256
            (Scalar.subi (Scalar.extui (Scalar.cmpi .sgt 64#32 0#32) : BitVec 32)
              (Scalar.extui (Scalar.cmpi .slt 64#32 0#32)))))
        (cmpi .ne (remsi i (broadcast S256x256 64#32)) (broadcast S256x256 0#32)))
      (subi (divsi i (broadcast S256x256 64#32)) (broadcast S256x256 1#32))
      (divsi i (broadcast S256x256 64#32)))
    (broadcast S256x256 (Scalar.muli o 4#32))

/-- The mask of the chunk that device `o` owns, at the rows of device `my`. -/
def maskOf (my o : BitVec 32) : IVec S256x256 1 :=
  let qb := blockNo (iota .tc S256x256 32 [0] iota_S256x256_d0_w32) my
  let kb := blockNo (iota .tc S256x256 32 [1] iota_S256x256_d1_w32) o
  ori (ori (cmpi .eq qb kb) (cmpi .eq kb (broadcast S256x256 0#32)))
    (cmpi .eq (remsi (addi qb kb) (broadcast S256x256 3#32)) (broadcast S256x256 0#32))

theorem slices_q (b : Fin 2) (h : Fin 4) :
    S512x256.Slices ![256 * b.val, 64 * h.val] S256x64 := by
  revert b h; decide

theorem slices_k (h : Fin 4) : S256x256.Slices ![0, 64 * h.val] S256x64 := by
  revert h; decide

/-- The queries: the device's rows of `x` by `Wq`, both batch entries stacked. -/
def queries (x : Vec F S2x256x512 .f32) (wq : Vec F S512x256 .f32) : FVec F S512x256 .f32 :=
  matmul dot_S512x512_S512x256_S512x256_1_0_0_1_n_n none
    (shapeCast S512x512 (shapeCast S2x256x512 x shapeCasts_S2x256x512_S2x256x512)
      shapeCasts_S2x256x512_S512x512)
    (shapeCast S512x256 wq shapeCasts_S512x256_S512x256)
    (constant S512x256 .f32 0x00000000#32)

/-- The scores of batch entry `b`, head `h` against one chunk of keys, masked. -/
def scores (b : Fin 2) (h : Fin 4) (mask : IVec S256x256 1) (q : FVec F S512x256 .f32)
    (kc : FVec F S256x256 .bf16) : FVec F S256x256 .f32 :=
  select mask
    (mulf
      (matmul dot_S256x64_S256x64_S256x256_1_1_0_0_n_n none
        (truncf .bf16
          (extractStridedSlice S256x64 ![256 * b.val, 64 * h.val] q (slices_q b h) : FVec F S256x64 .f32)
          bitsLt_bf16_f32)
        (extractStridedSlice S256x64 ![0, 64 * h.val] kc (slices_k h))
        (constant S256x256 .f32 0x00000000#32))
      (broadcast S256x256 (Scalar.ofBits .f32 0x3E000000#32)))
    (broadcast S256x256 (Scalar.ofBits .f32 0xCE6E6B28#32))

/-- The new running maximum. -/
def maxRow (m : FVec F S256x1 .f32) (s : FVec F S256x256 .f32) : FVec F S256x1 .f32 :=
  maximumf m (shapeCast S256x1
    (multiReduction .maximumf [1] S256 s 0xFF800000#32 reduces_S256x256_S256 (.inl rfl) rfl :
      FVec F S256 .f32) shapeCasts_S256_S256x1)

/-- The exponentials of the scores against a maximum. -/
def expRow (m : FVec F S256x1 .f32) (s : FVec F S256x256 .f32) : FVec F S256x256 .f32 :=
  exp (subf s (broadcastTo S256x256 m broadcasts_S256x1_S256x256))

/-- One step of the running softmax of head `h`: scores `s`, the chunk's values `vc`. -/
def rowStep (h : Fin 4) (s : FVec F S256x256 .f32) (vc : FVec F S256x256 .bf16) (st : Row F) :
    Row F :=
  let m' := maxRow st.1 s
  let sc : FVec F S256x1 .f32 := exp (subf st.1 m')
  let e := expRow m' s
  (m',
   addf (mulf st.2.1 sc)
    (shapeCast S256x1
      (multiReduction .add [1] S256 e 0x00000000#32 reduces_S256x256_S256 (.inl rfl) rfl :
        FVec F S256 .f32) shapeCasts_S256_S256x1),
   addf (mulf st.2.2 (broadcastTo S256x64 sc broadcasts_S256x1_S256x64))
    (matmul dot_S256x256_S256x64_S256x64_1_0_0_1_n_n none (truncf .bf16 e bitsLt_bf16_f32)
      (extractStridedSlice S256x64 ![0, 64 * h.val] vc (slices_k h))
      (constant S256x64 .f32 0x00000000#32)))

/-- One chunk: every batch entry and head takes its step, against the chunk of device `o`. -/
def chunkStep (my o : BitVec 32) (q : FVec F S512x256 .f32)
    (kc vc : Fin 2 → FVec F S256x256 .bf16) (st : St F) : St F := fun b h =>
  rowStep h (scores b h (maskOf my o) q (kc b)) (vc b) (st b h)

/-- The state before the first chunk. -/
def st0 : St F := fun _ _ =>
  (broadcast S256x1 (Scalar.ofBits .f32 0xF149F2CA#32),
   broadcast S256x1 (Scalar.ofBits .f32 0x00000000#32),
   broadcast S256x64 (Scalar.ofBits .f32 0x00000000#32))

/-- Numerator over denominator, of one batch entry and head. -/
def quotRow (r : Row F) : FVec F S256x64 .f32 :=
  divf r.2.2 (broadcastTo S256x64 r.2.1 broadcasts_S256x1_S256x64)

/-- The output rows of one batch entry: the heads side by side, by `Wo`. -/
def outRows (st : Fin 4 → Row F) (wo : Vec F S256x512 .f32) : FVec F S1x256x512 .f32 :=
  shapeCast S1x256x512
    (matmul dot_S256x256_S256x512_S256x512_1_0_0_1_n_n none
      (truncf .bf16
        (concatenate S256x256 1
          [⟨S256x64, quotRow (st 0)⟩, ⟨S256x64, quotRow (st 1)⟩, ⟨S256x64, quotRow (st 2)⟩,
           ⟨S256x64, quotRow (st 3)⟩]
          concatenates_S256x64_S256x64_S256x64_S256x64_S256x256_d1 : FVec F S256x256 .f32)
        bitsLt_bf16_f32)
      (truncf .bf16 (shapeCast S256x512 wo shapeCasts_S256x512_S256x512 : FVec F S256x512 .f32)
        bitsLt_bf16_f32)
      (constant S256x512 .f32 0x00000000#32) : FVec F S256x512 .f32)
    shapeCasts_S256x512_S1x256x512

end Bsa

end
-- ==== Proof.Bsa.Body.lean ====
/- The kernel's body restated: the same operations in the same order, each transfer and wait by its
   array (0: keys, 1: values) and its flow, each chunk as one short program. -/
module

public import proofs.«01_k».proof.Proof.Bsa.Vals
public import proofs.«01_k».proof.Proof.Gen.KernelIdeal.Points

@[expose] public section

noncomputable section

namespace Bsa

open Idealize.ShloMosaic Idealize.ShloMosaic.TcCoe Idealize.SL Idealize.SL.Sem
open Cert.KernelIdeal Cert.KernelIdeal.Gen

variable {F : FTy → Type} [FloatOps F]

/-! ## Device numbers as the program computes them -/

/-- Ring position to device number and back: `p` below 4, `11 - p` from 4 on. -/
def flipW (p : BitVec 32) : BitVec 32 :=
  Scalar.select (Scalar.cmpi .slt p 4#32) p (Scalar.subi 11#32 p)

/-- The device at ring position `p` modulo 8. -/
def ringW (p : BitVec 32) : BitVec 32 := flipW (Scalar.remsi (Scalar.addi p 8#32) 8#32)

/-- The device's own number. -/
def myW (d : Dev nD) : BitVec 32 := Scalar.remsi (Scalar.divsi (Dev.word d) 1#32) 8#32

/-- The device's ring position. -/
def posW (d : Dev nD) : BitVec 32 := flipW (myW d)

/-- Whether the ring position is odd. -/
def oddW (d : Dev nD) : BitVec 1 := Scalar.cmpi .eq (Scalar.remsi (posW d) 2#32) 1#32

/-- The chord neighbour: three places back from an odd position, three forward from an even one. -/
def chordW (d : Dev nD) : BitVec 32 :=
  Scalar.select (oddW d) (ringW (Scalar.subi (posW d) 3#32)) (ringW (Scalar.addi (posW d) 3#32))

/-- The chunk processed last: three places forward from an odd position, back from an even one. -/
def lastW (d : Dev nD) : BitVec 32 :=
  Scalar.select (oddW d) (ringW (Scalar.addi (posW d) 3#32)) (ringW (Scalar.subi (posW d) 3#32))

/-! ## Semaphores and slots -/

theorem inb_sem (t : Fin 2) (f : Fin 7) :
    ∀ a, (![t.val, f.val] : Fin 2 → Nat) a + S1x1.size a ≤ S2x7.size a := by
  revert t f; decide

/-- The barrier's semaphore. -/
abbrev barS : Fin sig.nSem := (SemArray.scalar (sig.barrier 0 rfl) : Sems sig S_).sem

/-- Semaphore of array `t`, flow `f`. -/
abbrev semAt (A : DmaSems sig S2x7) (t : Fin 2) (f : Fin 7) :=
  ((A.slice (Rect.unit (s := S2x7) ![t.val, f.val] S1x1.size (inb_sem t f))).squeeze S_
    squeezes_S1x1_S_).sem

/-- What an offset in the gathering array must satisfy for the slot there to be transferred. -/
structure SlotOk (off : Fin 4 → Nat) : Prop where
  inb : ∀ a, off a + S1x2x256x256.size a ≤ S8x2x256x256.size a
  words : (Rect.unit (s := S8x2x256x256) off S1x2x256x256.size inb).WholeWords (EltTy.packing .bf16)

/-- The slot of a gathering array at an offset. -/
abbrev slotAt (M : Memref sig .tc .vmem S8x2x256x256 .bf16) (off : Fin 4 → Nat) (h : SlotOk off) :
    Memref sig .tc .vmem S2x256x256 .bf16 :=
  (M.slice (Rect.unit (s := S8x2x256x256) off S1x2x256x256.size h.inb) (fun _ => rfl)).squeeze
    S2x256x256 squeezes_S1x2x256x256_S2x256x256

theorem ok1 (d : Dev nD) : SlotOk (k0_off1 d) := ⟨k0_off1_inb d, k0_off1_wordsbf16 d⟩
theorem ok2 (d : Dev nD) : SlotOk (k0_off2 d) := ⟨k0_off2_inb d, k0_off2_wordsbf16 d⟩
theorem ok3 (d : Dev nD) : SlotOk (k0_off3 d) := ⟨k0_off3_inb d, k0_off3_wordsbf16 d⟩
theorem ok4 (d : Dev nD) : SlotOk (k0_off4 d) := ⟨k0_off4_inb d, k0_off4_wordsbf16 d⟩
theorem ok11 (d : Dev nD) : SlotOk (k0_off11 d) := ⟨k0_off11_inb d, k0_off11_wordsbf16 d⟩

section Ops

variable (stg : Fin 2 → Memref sig .tc .vmem S2x256x256 .bf16) (hstg : ∀ t, (stg t).IsWhole)
  (buf : Fin 2 → Memref sig .tc .vmem S8x2x256x256 .bf16) (hbuf : ∀ t, (buf t).IsWhole)
  (sS rS : DmaSems sig S2x7)

/-- Send the device's own block of array `t` along flow `f` to device `dst`, into the slot at
    `off` there. -/
def sendOwn (t : Fin 2) (f : Fin 7) (dst : Dev nD) (off : Fin 4 → Nat) (h : SlotOk off) :
    Prog (TpuEff nD τ sig (Elt F) Λ₀ .tc) PUnit :=
  Prog.lift (.enqueueDma (stg t)
    (.remote (Dev.tc dst) (slotAt (buf t) off h) (.dma (semAt sS t f))) (.dma (semAt rS t f))
    (hstg t).wordExact (((hbuf t).wordExact_slice rfl _ h.words).reshape _ _)
    ⟨⟨rfl, Or.inl rfl⟩, trivial⟩)

/-- Pass the slot at `off` of array `t` on along flow `f` to device `dst`, into the same slot. -/
def sendSlot (t : Fin 2) (f : Fin 7) (dst : Dev nD) (off : Fin 4 → Nat) (h : SlotOk off) :
    Prog (TpuEff nD τ sig (Elt F) Λ₀ .tc) PUnit :=
  Prog.lift (.enqueueDma (slotAt (buf t) off h)
    (.remote (Dev.tc dst) (slotAt (buf t) off h) (.dma (semAt sS t f))) (.dma (semAt rS t f))
    (((hbuf t).wordExact_slice rfl _ h.words).reshape _ _)
    (((hbuf t).wordExact_slice rfl _ h.words).reshape _ _)
    ⟨⟨rfl, Or.inl rfl⟩, trivial⟩)

/-- Wait for the landing of array `t` on flow `f`, of the flows that carry the sender's own block. -/
def recvOwn (t : Fin 2) (f : Fin 7) (off : Fin 4 → Nat) (h : SlotOk off) :
    Prog (TpuEff nD τ sig (Elt F) Λ₀ .tc) PUnit :=
  Prog.lift (.waitDma2 (semAt rS t f) (stg t) (slotAt (buf t) off h) (hstg t).wordExact
    (((hbuf t).wordExact_slice rfl _ h.words).reshape _ _))

/-- Wait for the landing of array `t` on flow `f`, of the flows that pass a slot on. -/
def recvSlot (A : DmaSems sig S2x7) (t : Fin 2) (f : Fin 7) (off : Fin 4 → Nat) (h : SlotOk off) :
    Prog (TpuEff nD τ sig (Elt F) Λ₀ .tc) PUnit :=
  Prog.lift (.waitDma2 (semAt A t f) (slotAt (buf t) off h) (slotAt (buf t) off h)
    (((hbuf t).wordExact_slice rfl _ h.words).reshape _ _)
    (((hbuf t).wordExact_slice rfl _ h.words).reshape _ _))

/-- Wait until the device's own block of array `t` has been read for flow `f`. -/
def sentOwn (t : Fin 2) (f : Fin 7) (off : Fin 4 → Nat) (h : SlotOk off) :
    Prog (TpuEff nD τ sig (Elt F) Λ₀ .tc) PUnit :=
  Prog.lift (.waitDma2 (semAt sS t f) (slotAt (buf t) off h) (stg t)
    (((hbuf t).wordExact_slice rfl _ h.words).reshape _ _) (hstg t).wordExact)

/-- One batch entry of a slot, as loaded. -/
def loadSlot (t : Fin 2) (off : Fin 4 → Nat)
    (h : ∀ a, off a + S1x1x256x256.size a ≤ S8x2x256x256.size a) :
    Prog (TpuEff nD τ sig (Elt F) Λ₀ .tc) (Vec F S1x1x256x256 .bf16) :=
  Prog.lift (.load (buf t) (Rect.unit (s := S8x2x256x256) off S1x1x256x256.size h).toLoadRect
    (View.loadsAt_vmem h_S1x1x256x256))

/-- One batch entry of the device's own block, as loaded. -/
def loadOwn (t : Fin 2) (off : Fin 3 → Nat)
    (h : ∀ a, off a + S1x256x256.size a ≤ S2x256x256.size a) :
    Prog (TpuEff nD τ sig (Elt F) Λ₀ .tc) (Vec F S1x256x256 .bf16) :=
  Prog.lift (.load (stg t) (Rect.unit (s := S2x256x256) off S1x256x256.size h).toLoadRect
    (View.loadsAt_vmem h_S1x256x256))

/-- The chunk in the slot with batch entries at `off`, `off'`. -/
def chunkC (d : Dev nD) (o : BitVec 32) (q : FVec F S512x256 .f32) (st : St F)
    (off off' : Fin 4 → Nat)
    (h : ∀ a, off a + S1x1x256x256.size a ≤ S8x2x256x256.size a)
    (h' : ∀ a, off' a + S1x1x256x256.size a ≤ S8x2x256x256.size a) :
    Prog (TpuEff nD τ sig (Elt F) Λ₀ .tc) (St F) := do
  let k0 ← loadSlot buf 0 off h
  let v0 ← loadSlot buf 1 off h
  let k1 ← loadSlot buf 0 off' h'
  let v1 ← loadSlot buf 1 off' h'
  pure (chunkStep (myW d) o q
    ![shapeCast S256x256 k0 shapeCasts_S1x1x256x256_S256x256,
      shapeCast S256x256 k1 shapeCasts_S1x1x256x256_S256x256]
    ![shapeCast S256x256 v0 shapeCasts_S1x1x256x256_S256x256,
      shapeCast S256x256 v1 shapeCasts_S1x1x256x256_S256x256] st)

/-- The device's own chunk, read from the staged operands. -/
def chunkOwnC (d : Dev nD) (q : FVec F S512x256 .f32) :
    Prog (TpuEff nD τ sig (Elt F) Λ₀ .tc) (St F) := do
  let k0 ← loadOwn stg 0 ![0, 0, 0] inb_S2x256x256_S1x256x256_0_0_0
  let v0 ← loadOwn stg 1 ![0, 0, 0] inb_S2x256x256_S1x256x256_0_0_0
  let k1 ← loadOwn stg 0 ![1, 0, 0] inb_S2x256x256_S1x256x256_1_0_0
  let v1 ← loadOwn stg 1 ![1, 0, 0] inb_S2x256x256_S1x256x256_1_0_0
  pure (chunkStep (myW d) (myW d) q
    ![shapeCast S256x256 k0 shapeCasts_S1x256x256_S256x256,
      shapeCast S256x256 k1 shapeCasts_S1x256x256_S256x256]
    ![shapeCast S256x256 v0 shapeCasts_S1x256x256_S256x256,
      shapeCast S256x256 v1 shapeCasts_S1x256x256_S256x256] st0)

/-- The output rows of batch entry at `off`, stored. -/
def outC (awo : Memref sig .tc .vmem S256x512 .f32) (aout : Memref sig .tc .vmem S2x256x512 .f32)
    (st : Fin 4 → Row F) (off : Fin 3 → Nat)
    (h : ∀ a, off a + S1x256x512.size a ≤ S2x256x512.size a) :
    Prog (TpuEff nD τ sig (Elt F) Λ₀ .tc) PUnit := do
  let wo : Vec F S256x512 .f32 ← Prog.lift (.load awo
    (Rect.unit (s := S256x512) ![0, 0] S256x512.size inb_S256x512_S256x512_0_0).toLoadRect
    (View.loadsAt_vmem h_S256x512))
  let _ : Vec F S1x256x512 .f32 ← Prog.lift (.load aout
    (Rect.unit (s := S2x256x512) off S1x256x512.size h).toLoadRect
    (View.loadsAt_vmem h_S1x256x512))
  Prog.lift (.store aout (Rect.unit (s := S2x256x512) off S1x256x512.size h) (outRows st wo)
    Finset.univ (View.stores_vmem_bits_univ h_S1x256x512 rfl) (.inl rfl))

/-- The start of the body: the three barrier signals, the wait for the neighbours', and the first
    transfers. -/
def startC (d : Dev nD) : Prog (TpuEff nD τ sig (Elt F) Λ₀ .tc) PUnit := do
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32
  semWaitWord barS 3#32
  sendOwn stg hstg buf hbuf sS rS 0 0 ⟨k0_dev4 d, k0_dev4_lt d⟩ (k0_off1 d) (ok1 d)
  sendOwn stg hstg buf hbuf sS rS 0 1 ⟨k0_dev5 d, k0_dev5_lt d⟩ (k0_off1 d) (ok1 d)
  sendOwn stg hstg buf hbuf sS rS 0 5 ⟨k0_dev6 d, k0_dev6_lt d⟩ (k0_off1 d) (ok1 d)
  sendOwn stg hstg buf hbuf sS rS 1 0 ⟨k0_dev7 d, k0_dev7_lt d⟩ (k0_off1 d) (ok1 d)
  sendOwn stg hstg buf hbuf sS rS 1 1 ⟨k0_dev8 d, k0_dev8_lt d⟩ (k0_off1 d) (ok1 d)
  sendOwn stg hstg buf hbuf sS rS 1 5 ⟨k0_dev9 d, k0_dev9_lt d⟩ (k0_off1 d) (ok1 d)

/-- The second step: the ring neighbours' blocks land and are passed on. -/
def step1C (d : Dev nD) : Prog (TpuEff nD τ sig (Elt F) Λ₀ .tc) PUnit := do
  recvOwn stg hstg buf hbuf rS 0 0 (k0_off1 d) (ok1 d)
  recvOwn stg hstg buf hbuf rS 0 1 (k0_off1 d) (ok1 d)
  sendSlot buf hbuf sS rS 0 2 ⟨k0_dev10 d, k0_dev10_lt d⟩ (k0_off2 d) (ok2 d)
  sendSlot buf hbuf sS rS 0 3 ⟨k0_dev11 d, k0_dev11_lt d⟩ (k0_off3 d) (ok3 d)
  sendSlot buf hbuf sS rS 0 6 ⟨k0_dev12 d, k0_dev12_lt d⟩ (k0_off4 d) (ok4 d)
  recvOwn stg hstg buf hbuf rS 1 0 (k0_off1 d) (ok1 d)
  recvOwn stg hstg buf hbuf rS 1 1 (k0_off1 d) (ok1 d)
  sendSlot buf hbuf sS rS 1 2 ⟨k0_dev13 d, k0_dev13_lt d⟩ (k0_off2 d) (ok2 d)
  sendSlot buf hbuf sS rS 1 3 ⟨k0_dev14 d, k0_dev14_lt d⟩ (k0_off3 d) (ok3 d)
  sendSlot buf hbuf sS rS 1 6 ⟨k0_dev15 d, k0_dev15_lt d⟩ (k0_off4 d) (ok4 d)

/-- The third step: the blocks two places away land, one of them is passed on. -/
def step2C (d : Dev nD) : Prog (TpuEff nD τ sig (Elt F) Λ₀ .tc) PUnit := do
  recvSlot buf hbuf rS 0 2 (k0_off2 d) (ok2 d)
  recvSlot buf hbuf rS 0 3 (k0_off3 d) (ok3 d)
  sendSlot buf hbuf sS rS 0 4 ⟨k0_dev16 d, k0_dev16_lt d⟩ (k0_off11 d) (ok11 d)
  recvSlot buf hbuf rS 1 2 (k0_off2 d) (ok2 d)
  recvSlot buf hbuf rS 1 3 (k0_off3 d) (ok3 d)
  sendSlot buf hbuf sS rS 1 4 ⟨k0_dev17 d, k0_dev17_lt d⟩ (k0_off11 d) (ok11 d)

/-- The end of the body: every transfer the device started has read its source. -/
def endC (d : Dev nD) : Prog (TpuEff nD τ sig (Elt F) Λ₀ .tc) PUnit := do
  sentOwn stg hstg buf hbuf sS 0 0 (k0_off1 d) (ok1 d)
  sentOwn stg hstg buf hbuf sS 0 1 (k0_off1 d) (ok1 d)
  sentOwn stg hstg buf hbuf sS 0 5 (k0_off1 d) (ok1 d)
  sentOwn stg hstg buf hbuf sS 1 0 (k0_off1 d) (ok1 d)
  sentOwn stg hstg buf hbuf sS 1 1 (k0_off1 d) (ok1 d)
  sentOwn stg hstg buf hbuf sS 1 5 (k0_off1 d) (ok1 d)
  recvSlot buf hbuf sS 0 2 (k0_off2 d) (ok2 d)
  recvSlot buf hbuf sS 0 3 (k0_off3 d) (ok3 d)
  recvSlot buf hbuf sS 0 6 (k0_off4 d) (ok4 d)
  recvSlot buf hbuf sS 1 2 (k0_off2 d) (ok2 d)
  recvSlot buf hbuf sS 1 3 (k0_off3 d) (ok3 d)
  recvSlot buf hbuf sS 1 6 (k0_off4 d) (ok4 d)
  recvSlot buf hbuf sS 0 4 (k0_off11 d) (ok11 d)
  recvSlot buf hbuf sS 1 4 (k0_off11 d) (ok11 d)

variable (ax : Memref sig .tc .vmem S2x256x512 .f32) (awq : Memref sig .tc .vmem S512x256 .f32)
  (awo : Memref sig .tc .vmem S256x512 .f32) (aout : Memref sig .tc .vmem S2x256x512 .f32)

/-- The queries, from the staged `x` and `Wq`. -/
def queriesC : Prog (TpuEff nD τ sig (Elt F) Λ₀ .tc) (FVec F S512x256 .f32) := do
  let x : Vec F S2x256x512 .f32 ← Prog.lift (.load ax
    (Rect.unit (s := S2x256x512) ![0, 0, 0] S2x256x512.size inb_S2x256x512_S2x256x512_0_0_0).toLoadRect
    (View.loadsAt_vmem h_S2x256x512))
  let wq : Vec F S512x256 .f32 ← Prog.lift (.load awq
    (Rect.unit (s := S512x256) ![0, 0] S512x256.size inb_S512x256_S512x256_0_0).toLoadRect
    (View.loadsAt_vmem h_S512x256))
  pure (queries x wq)

/-- The body on device `d`. -/
def bodyAt (d : Dev nD) : Prog (TpuEff nD τ sig (Elt F) Λ₀ .tc) PUnit := do
  startC stg hstg buf hbuf sS rS d
  let q ← queriesC ax awq
  let s1 ← chunkOwnC stg d q
  step1C stg hstg buf hbuf sS rS d
  let s2 ← chunkC buf d (ringW (Scalar.subi (posW d) 1#32)) q s1 (k0_off5 d 1#32) (k0_off6 d 1#32)
    (k0_off5_inb d 0) (k0_off6_inb d 0)
  let s3 ← chunkC buf d (ringW (Scalar.addi (posW d) 1#32)) q s2 (k0_off7 d 1#32) (k0_off8 d 1#32)
    (k0_off7_inb d 0) (k0_off8_inb d 0)
  recvOwn stg hstg buf hbuf rS 0 5 (k0_off1 d) (ok1 d)
  recvOwn stg hstg buf hbuf rS 1 5 (k0_off1 d) (ok1 d)
  let s4 ← chunkC buf d (chordW d) q s3 (k0_off9 d) (k0_off10 d) (k0_off9_inb d) (k0_off10_inb d)
  step2C buf hbuf sS rS d
  let s5 ← chunkC buf d (ringW (Scalar.subi (posW d) 2#32)) q s4 (k0_off5 d 2#32) (k0_off6 d 2#32)
    (k0_off5_inb d 1) (k0_off6_inb d 1)
  let s6 ← chunkC buf d (ringW (Scalar.addi (posW d) 2#32)) q s5 (k0_off7 d 2#32) (k0_off8 d 2#32)
    (k0_off7_inb d 1) (k0_off8_inb d 1)
  recvSlot buf hbuf rS 0 6 (k0_off4 d) (ok4 d)
  recvSlot buf hbuf rS 1 6 (k0_off4 d) (ok4 d)
  let s7 ← chunkC buf d (ringW (Scalar.addi (posW d) 4#32)) q s6 (k0_off7 d 4#32) (k0_off8 d 4#32)
    (k0_off7_inb d 2) (k0_off8_inb d 2)
  recvSlot buf hbuf rS 0 4 (k0_off11 d) (ok11 d)
  recvSlot buf hbuf rS 1 4 (k0_off11 d) (ok11 d)
  let s8 ← chunkC buf d (lastW d) q s7 (k0_off12 d) (k0_off13 d) (k0_off12_inb d) (k0_off13_inb d)
  outC awo aout (s8 0) ![0, 0, 0] inb_S2x256x512_S1x256x512_0_0_0
  outC awo aout (s8 1) ![1, 0, 0] inb_S2x256x512_S1x256x512_1_0_0
  endC stg hstg buf hbuf sS d

/-- The body: the device reads its number, then runs. -/
def bodyC : Prog (TpuEff nD τ sig (Elt F) Λ₀ .tc) PUnit := do
  let d ← Prog.lift .deviceId
  bodyAt stg hstg buf hbuf sS rS ax awq awo aout d

end Ops

theorem isWhole_pair {s : Shape} {e : EltTy} {a b : Memref sig .tc .vmem s e} (ha : a.IsWhole)
    (hb : b.IsWhole) : ∀ t : Fin 2, ((![a, b] : Fin 2 → Memref sig .tc .vmem s e) t).IsWhole := by
  intro t
  match t with
  | 0 => exact ha
  | 1 => exact hb

end Bsa

end
-- ==== Proof.Bsa.Tables.lean ====
/- The mesh tables: each device's neighbours, and for each of the seven flows of blocks the device a
   block goes to, the device it comes from, and the block carried; the printed device numbers and
   offsets in terms of these tables. -/
module

public import proofs.«01_k».proof.Proof.Bsa.Body

@[expose] public section

noncomputable section

namespace Bsa

open Idealize.ShloMosaic Idealize.ShloMosaic.TcCoe Idealize.SL Idealize.SL.Sem
open Cert.KernelIdeal Cert.KernelIdeal.Gen

/-- The next device along the ring. -/
def rgt : Dev nD → Dev nD := ![1, 2, 3, 7, 0, 4, 5, 6]
/-- The previous device along the ring. -/
def lft : Dev nD → Dev nD := ![4, 0, 1, 2, 5, 6, 7, 3]
/-- The device across the chord. -/
def chd : Dev nD → Dev nD := ![3, 5, 6, 0, 7, 1, 2, 4]
/-- Whether the device's ring position is odd. -/
def odd : Dev nD → Bool := ![false, true, false, true, true, false, true, false]

/-- Where device `c` sends along flow `f`. -/
def peer (f : Fin 7) (c : Dev nD) : Dev nD :=
  ![rgt c, lft c, rgt c, lft c, if odd c then rgt c else lft c, chd c, chd c] f
/-- From where device `c` receives along flow `f`. -/
def frm (f : Fin 7) (c : Dev nD) : Dev nD :=
  ![lft c, rgt c, lft c, rgt c, if odd c then rgt c else lft c, chd c, chd c] f
/-- Whose block device `c` sends along flow `f`. -/
def own (f : Fin 7) (c : Dev nD) : Dev nD :=
  ![c, c, lft c, rgt c, if odd c then lft (lft c) else rgt (rgt c), c,
    if odd c then rgt c else lft c] f
/-- Whose block device `c` receives along flow `f`. -/
def land (f : Fin 7) (c : Dev nD) : Dev nD := own f (frm f c)

/-- Of the ring neighbours' blocks, the one not passed on along the chord. -/
def oth6 (c : Dev nD) : Dev nD := if odd c then lft c else rgt c
/-- Of the blocks two places away, the one not passed on. -/
def oth4 (c : Dev nD) : Dev nD := if odd c then rgt (rgt c) else lft (lft c)

theorem frm_peer (f : Fin 7) (c : Dev nD) : frm f (peer f c) = c := by revert f c; decide
theorem peer_frm (f : Fin 7) (c : Dev nD) : peer f (frm f c) = c := by revert f c; decide
theorem land_peer (f : Fin 7) (c : Dev nD) : land f (peer f c) = own f c := by
  unfold land; rw [frm_peer]

/-- Sending along one flow is a permutation of the devices. -/
def peerE (f : Fin 7) : Dev nD ≃ Dev nD := ⟨peer f, frm f, frm_peer f, peer_frm f⟩

theorem rgt_lft (c : Dev nD) : rgt (lft c) = c := by revert c; decide
theorem lft_rgt (c : Dev nD) : lft (rgt c) = c := by revert c; decide
theorem chd_chd (c : Dev nD) : chd (chd c) = c := by revert c; decide
theorem odd_lft (c : Dev nD) : odd (lft c) = !odd c := by revert c; decide
theorem odd_rgt (c : Dev nD) : odd (rgt c) = !odd c := by revert c; decide

/-- The ring towards the previous device, towards the next, and the chord, as permutations. -/
def lftE : Dev nD ≃ Dev nD := ⟨lft, rgt, rgt_lft, lft_rgt⟩
def rgtE : Dev nD ≃ Dev nD := ⟨rgt, lft, lft_rgt, rgt_lft⟩
def chdE : Dev nD ≃ Dev nD := ⟨chd, chd, chd_chd, chd_chd⟩

/-- The blocks of a device in the order it processes them, its own first. -/
def order (c : Dev nD) : Fin 8 → Dev nD :=
  ![c, land 0 c, land 1 c, land 5 c, land 2 c, land 3 c, land 6 c, land 4 c]

theorem order_inj (c : Dev nD) : Function.Injective (order c) := by revert c; decide
/-- Every device's block is processed exactly once. -/
def orderE (c : Dev nD) : Fin 8 ≃ Dev nD :=
  Equiv.ofBijective (order c)
    ((Fintype.bijective_iff_injective_and_card (order c)).2 ⟨order_inj c, rfl⟩)

theorem land0 (c : Dev nD) : land 0 c = lft c := by revert c; decide
theorem land1 (c : Dev nD) : land 1 c = rgt c := by revert c; decide
theorem land5 (c : Dev nD) : land 5 c = chd c := by revert c; decide
theorem land2 (c : Dev nD) : land 2 c = lft (lft c) := by revert c; decide
theorem land3 (c : Dev nD) : land 3 c = rgt (rgt c) := by revert c; decide
theorem own6_odd (c : Dev nD) (h : odd c = true) : own 6 c = rgt c ∧ oth6 c = lft c := by
  revert c; decide
theorem own6_even (c : Dev nD) (h : odd c = false) : own 6 c = lft c ∧ oth6 c = rgt c := by
  revert c; decide
theorem own4_odd (c : Dev nD) (h : odd c = true) :
    own 4 c = lft (lft c) ∧ oth4 c = rgt (rgt c) := by revert c; decide
theorem own4_even (c : Dev nD) (h : odd c = false) :
    own 4 c = rgt (rgt c) ∧ oth4 c = lft (lft c) := by revert c; decide

/-! ## The printed device numbers -/

theorem dev1_eq (c : Dev nD) : (⟨k0_dev1 c, k0_dev1_lt c⟩ : Dev nD) = lft c := by revert c; decide +kernel
theorem dev2_eq (c : Dev nD) : (⟨k0_dev2 c, k0_dev2_lt c⟩ : Dev nD) = rgt c := by revert c; decide +kernel
theorem dev3_eq (c : Dev nD) : (⟨k0_dev3 c, k0_dev3_lt c⟩ : Dev nD) = chd c := by revert c; decide +kernel
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 5 c := by revert c; decide +kernel
theorem dev7_eq (c : Dev nD) : (⟨k0_dev7 c, k0_dev7_lt c⟩ : Dev nD) = peer 0 c := by revert c; decide +kernel
theorem dev8_eq (c : Dev nD) : (⟨k0_dev8 c, k0_dev8_lt c⟩ : Dev nD) = peer 1 c := by revert c; decide +kernel
theorem dev9_eq (c : Dev nD) : (⟨k0_dev9 c, k0_dev9_lt c⟩ : Dev nD) = peer 5 c := by revert c; decide +kernel
theorem dev10_eq (c : Dev nD) : (⟨k0_dev10 c, k0_dev10_lt c⟩ : Dev nD) = peer 2 c := by revert c; decide +kernel
theorem dev11_eq (c : Dev nD) : (⟨k0_dev11 c, k0_dev11_lt c⟩ : Dev nD) = peer 3 c := by revert c; decide +kernel
theorem dev12_eq (c : Dev nD) : (⟨k0_dev12 c, k0_dev12_lt c⟩ : Dev nD) = peer 6 c := by revert c; decide +kernel
theorem dev13_eq (c : Dev nD) : (⟨k0_dev13 c, k0_dev13_lt c⟩ : Dev nD) = peer 2 c := by revert c; decide +kernel
theorem dev14_eq (c : Dev nD) : (⟨k0_dev14 c, k0_dev14_lt c⟩ : Dev nD) = peer 3 c := by revert c; decide +kernel
theorem dev15_eq (c : Dev nD) : (⟨k0_dev15 c, k0_dev15_lt c⟩ : Dev nD) = peer 6 c := by revert c; decide +kernel
theorem dev16_eq (c : Dev nD) : (⟨k0_dev16 c, k0_dev16_lt c⟩ : Dev nD) = peer 4 c := by revert c; decide +kernel
theorem dev17_eq (c : Dev nD) : (⟨k0_dev17 c, k0_dev17_lt c⟩ : Dev nD) = peer 4 c := by revert c; decide +kernel

/-! ## The printed offsets -/

/-- The offset of device `o`'s slot, at batch entry `b`. -/
def offO (o : Dev nD) (b : Fin 2) : Fin 4 → Nat := ![o.val, b.val, 0, 0]

theorem off1_eq (c : Dev nD) : k0_off1 c = offO c 0 := by revert c; decide +kernel
theorem off2_eq (c : Dev nD) : k0_off2 c = offO (lft c) 0 := by revert c; decide +kernel
theorem off3_eq (c : Dev nD) : k0_off3 c = offO (rgt c) 0 := by revert c; decide +kernel
theorem off4_eq (c : Dev nD) : k0_off4 c = offO (own 6 c) 0 := by revert c; decide +kernel
theorem off11_eq (c : Dev nD) : k0_off11 c = offO (own 4 c) 0 := by revert c; decide +kernel
theorem off5_1_eq (c : Dev nD) : k0_off5 c 1#32 = offO (lft c) 0 := by revert c; decide +kernel
theorem off6_1_eq (c : Dev nD) : k0_off6 c 1#32 = offO (lft c) 1 := by revert c; decide +kernel
theorem off7_1_eq (c : Dev nD) : k0_off7 c 1#32 = offO (rgt c) 0 := by revert c; decide +kernel
theorem off8_1_eq (c : Dev nD) : k0_off8 c 1#32 = offO (rgt c) 1 := by revert c; decide +kernel
theorem off9_eq (c : Dev nD) : k0_off9 c = offO (chd c) 0 := by revert c; decide +kernel
theorem off10_eq (c : Dev nD) : k0_off10 c = offO (chd c) 1 := by revert c; decide +kernel
theorem off5_2_eq (c : Dev nD) : k0_off5 c 2#32 = offO (lft (lft c)) 0 := by revert c; decide +kernel
theorem off6_2_eq (c : Dev nD) : k0_off6 c 2#32 = offO (lft (lft c)) 1 := by revert c; decide +kernel
theorem off7_2_eq (c : Dev nD) : k0_off7 c 2#32 = offO (rgt (rgt c)) 0 := by revert c; decide +kernel
theorem off8_2_eq (c : Dev nD) : k0_off8 c 2#32 = offO (rgt (rgt c)) 1 := by revert c; decide +kernel
theorem off7_4_eq (c : Dev nD) : k0_off7 c 4#32 = offO (land 6 c) 0 := by revert c; decide +kernel
theorem off8_4_eq (c : Dev nD) : k0_off8 c 4#32 = offO (land 6 c) 1 := by revert c; decide +kernel
theorem off12_eq (c : Dev nD) : k0_off12 c = offO (land 4 c) 0 := by revert c; decide +kernel
theorem off13_eq (c : Dev nD) : k0_off13 c = offO (land 4 c) 1 := by revert c; decide +kernel

/-! ## The printed device words -/

/-- A device's number as a word. -/
def devW (o : Dev nD) : BitVec 32 := BitVec.ofNat 32 o.val

theorem myW_eq (c : Dev nD) : myW c = devW c := by revert c; decide +kernel
theorem ring_m1 (c : Dev nD) : ringW (Scalar.subi (posW c) 1#32) = devW (lft c) := by revert c; decide +kernel
theorem ring_p1 (c : Dev nD) : ringW (Scalar.addi (posW c) 1#32) = devW (rgt c) := by revert c; decide +kernel
theorem ring_m2 (c : Dev nD) : ringW (Scalar.subi (posW c) 2#32) = devW (lft (lft c)) := by revert c; decide +kernel
theorem ring_p2 (c : Dev nD) : ringW (Scalar.addi (posW c) 2#32) = devW (rgt (rgt c)) := by revert c; decide +kernel
theorem ring_p4 (c : Dev nD) : ringW (Scalar.addi (posW c) 4#32) = devW (land 6 c) := by revert c; decide +kernel
theorem chordW_eq (c : Dev nD) : chordW c = devW (chd c) := by revert c; decide +kernel
theorem lastW_eq (c : Dev nD) : lastW c = devW (land 4 c) := by revert c; decide +kernel

end Bsa

end
-- ==== Proof.Bsa.Sched.lean ====
/- The protocol of the kernel. Each device has one barrier cell, and per array and flow one cell that
   counts its own transfer out and one that counts the landing. The barrier round has three payments,
   by the next, the previous and the chord device: each hands over its slots that the barrier's device
   will write into. A landing hands over the slot at the owner's block; the count of a transfer out
   returns the share of the source that was lent. -/
module

public import proofs.«01_k».proof.Proof.Bsa.Tables
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.Pipeline.RegionTalk
public import Idealize.ShloMosaic.Lib.MemrefSat

@[expose] public section

noncomputable section

namespace Bsa

open Idealize.SL Idealize.SL.RA Idealize.SL.BI Idealize.SL.BI.Laws Idealize.SL.ProofMode Idealize.SL.Sem
open scoped Idealize.SL.BI
open Idealize.SL.BI.BIBase
open Idealize.ShloMosaic Idealize.ShloMosaic.TcCoe
open Idealize.ShloMosaic.Rounds
open Idealize.ShloMosaic.Pipeline (Dat Cfg BodyObligation cellOf)
open Cert.KernelIdeal Cert.KernelIdeal.Gen

variable {F : FTy → Type} [FloatOps F]

/-- The protocol's ghost state: three possible payments per cell. -/
abbrev UB : Type := Rounds.URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers and slots -/

/-- The gathering arrays: keys, values. -/
abbrev bufs : Fin 2 → Memref sig .tc .vmem S8x2x256x256 .bf16 :=
  ![Memref.whole cc0_scratch0, Memref.whole cc0_scratch1]
/-- The staged own blocks: keys, values. -/
abbrev stgs : Fin 2 → Memref sig .tc .vmem S2x256x256 .bf16 :=
  ![Memref.whole cc0_stg2_0, Memref.whole cc0_stg3_0]

theorem bufs_whole : ∀ t, (bufs t).IsWhole :=
  isWhole_pair (Memref.isWhole_whole _) (Memref.isWhole_whole _)
theorem stgs_whole : ∀ t, (stgs t).IsWhole :=
  isWhole_pair (Memref.isWhole_whole _) (Memref.isWhole_whole _)

theorem okO (o : Dev nD) : SlotOk (offO o 0) := off1_eq o ▸ ok1 o

/-- Device `o`'s slot of array `t`. -/
abbrev slotO (t : Fin 2) (o : Dev nD) : Memref sig .tc .vmem S2x256x256 .bf16 :=
  slotAt (bufs t) (offO o 0) (okO o)

/-- The credit of one transfer. -/
abbrev N : ℕ := (stgs 0).view.dmaCredit
theorem N_pos : 0 < N := View.dmaCredit_pos _ (by decide)

/-- A device's staged own block at a share. -/
def ownB (A : Fin 2 → Dev nD → Vec F S2x256x256 .bf16) (t : Fin 2) (q : PosShare TreeShare)
    (c : Dev nD) : sProp 𝕄 := owns (c : Thread nD τ) (stgs t) q (A t c)

/-- Device `c`'s slot for `o`, holding `o`'s block, at a share. -/
def slotB (A : Fin 2 → Dev nD → Vec F S2x256x256 .bf16) (t : Fin 2) (o : Dev nD)
    (q : PosShare TreeShare) (c : Dev nD) : sProp 𝕄 :=
  owns (c : Thread nD τ) (slotO t o) q (A t o)

/-- Device `c`'s slot for `o`, whatever it holds. -/
def room (t : Fin 2) (o c : Dev nD) : sProp 𝕄 :=
  iprop(∃ X : Vec F S2x256x256 .bf16, owns (c : Thread nD τ) (slotO t o) fullShare X)

/-! ## Cells -/

abbrev bar (c : Dev nD) : GSem nD τ sig := ((c : Thread nD τ), .reg barS)
abbrev snd (t : Fin 2) (f : Fin 7) (c : Dev nD) : GSem nD τ sig :=
  ((c : Thread nD τ), .dma (semAt cc0_scratch2 t f))
abbrev rcv (t : Fin 2) (f : Fin 7) (c : Dev nD) : GSem nD τ sig :=
  ((c : Thread nD τ), .dma (semAt cc0_scratch3 t f))

/-- Which transfer a DMA semaphore counts: out (`false`) or landing (`true`), array, flow. -/
def dec (s : DmaSem sig) : Option (Bool × Fin 2 × Fin 7) :=
  if h : 6 ≤ s.val ∧ s.val < 20 then
    some (false, ⟨(s.val - 6) / 7, by omega⟩, ⟨(s.val - 6) % 7, by omega⟩)
  else if h : 20 ≤ s.val ∧ s.val < 34 then
    some (true, ⟨(s.val - 20) / 7, by omega⟩, ⟨(s.val - 20) % 7, by omega⟩)
  else none

theorem dec_snd (t : Fin 2) (f : Fin 7) : dec (semAt cc0_scratch2 t f) = some (false, t, f) := by
  revert t f; decide +kernel
theorem dec_rcv (t : Fin 2) (f : Fin 7) : dec (semAt cc0_scratch3 t f) = some (true, t, f) := by
  revert t f; decide +kernel

/-! ## Payloads -/

/-- The share of its source a transfer along flow `f` borrows. -/
def shr : Fin 7 → PosShare TreeShare :=
  ![fullShare.right.left, fullShare.right.right.left, fullShare.right.left, fullShare.right.left,
    fullShare.right, fullShare.right.right.right, fullShare.right.right]

/-- The flows that carry the sender's own block. -/
def ownFlow : Fin 7 → Bool := ![true, true, false, false, false, true, false]

/-- What a transfer out borrows. -/
def srcPay (A : Fin 2 → Dev nD → Vec F S2x256x256 .bf16) (t : Fin 2) (f : Fin 7) (c : Dev nD) :
    sProp 𝕄 :=
  if ownFlow f then ownB A t (shr f) c else slotB A t (own f c) (shr f) c

/-- The slots device `c` receives flow `f` in, with its landing cells ready. -/
def permAt (f : Fin 7) (c : Dev nD) : sProp 𝕄 :=
  iprop(room (F := F) 0 (land f c) c ∗ room (F := F) 1 (land f c) c
    ∗ reached ER (rcv 0 f c) 0 ∗ reached ER (rcv 1 f c) 0)

/-- What device `c` hands the previous device: its slots of the flows that device sends. -/
def giveL (c : Dev nD) : sProp 𝕄 :=
  iprop(permAt (F := F) 0 c ∗ permAt (F := F) 2 c ∗ if odd c then emp else permAt (F := F) 4 c)
/-- What it hands the next device. -/
def giveR (c : Dev nD) : sProp 𝕄 :=
  iprop(permAt (F := F) 1 c ∗ permAt (F := F) 3 c ∗ if odd c then permAt (F := F) 4 c else emp)
/-- What it hands the chord device. -/
def giveC (c : Dev nD) : sProp 𝕄 := iprop(permAt (F := F) 5 c ∗ permAt (F := F) 6 c)

/-- The three payments to device `n`'s barrier: by the next, the previous, the chord device. -/
def barPay (d : Fin 3) (n : Dev nD) : sProp 𝕄 :=
  match d with
  | 0 => giveL (rgt n)
  | 1 => giveR (lft n)
  | 2 => giveC (chd n)

/-! ## The schedule -/

/-- The payments of a semaphore's one round. -/
def dutySet (s : SemLoc sig) : Finset (Fin 3) :=
  match s with
  | .reg s => if s = barS then Finset.univ else ∅
  | .dma s => match dec s with
    | some _ => {0}
    | none => ∅

/-- What one payment to a semaphore of device `c` hands over. -/
def payOf (A : Fin 2 → Dev nD → Vec F S2x256x256 .bf16) (s : SemLoc sig) (c : Dev nD) (d : Fin 3) :
    sProp 𝕄 :=
  match s with
  | .reg _ => barPay d c
  | .dma s => match dec s with
    | some (false, t, f) => srcPay A t f c
    | some (true, t, f) => slotB A t (land f c) fullShare c
    | none => iprop(emp)

/-- The amount of one payment. -/
def amtOf (s : SemLoc sig) : ℕ :=
  match s with
  | .reg _ => 1
  | .dma _ => N

def sched (A : Fin 2 → Dev nD → Vec F S2x256x256 .bf16) :
    Rounds.Schedule (GSem nD τ sig) (Fin 3) 𝕄 where
  duties g r := if r = 0 ∧ g.1.2 = .tc then dutySet g.2 else ∅
  unitless _ := False
  amount g _ _ := amtOf g.2
  payload g _ d := payOf A g.2 g.1.1 d
  amount_pos g _ _ _ := by
    obtain ⟨c, s | s⟩ := g
    · exact Nat.one_pos
    · exact N_pos

variable (A : Fin 2 → Dev nD → Vec F S2x256x256 .bf16)

instance ownB_storable (t : Fin 2) (q : PosShare TreeShare) (c : Dev nD) :
    BI.Storable (upEmb : UEmb _ 𝕄) (ownB A t q c) := by unfold ownB; infer_instance
instance slotB_storable (t : Fin 2) (o : Dev nD) (q : PosShare TreeShare) (c : Dev nD) :
    BI.Storable (upEmb : UEmb _ 𝕄) (slotB A t o q c) := by unfold slotB; infer_instance
instance room_storable (t : Fin 2) (o c : Dev nD) :
    BI.Storable (upEmb : UEmb _ 𝕄) (room (F := F) t o c) := by unfold room; infer_instance
instance permAt_storable (f : Fin 7) (c : Dev nD) :
    BI.Storable (upEmb : UEmb _ 𝕄) (permAt (F := F) f c) := by unfold permAt; infer_instance
instance srcPay_storable (t : Fin 2) (f : Fin 7) (c : Dev nD) :
    BI.Storable (upEmb : UEmb _ 𝕄) (srcPay A t f c) := by
  unfold srcPay; split <;> infer_instance
instance barPay_storable (d : Fin 3) (c : Dev nD) :
    BI.Storable (upEmb : UEmb _ 𝕄) (barPay (F := F) d c) := by
  unfold barPay giveL giveR giveC
  (repeat' split) <;> infer_instance
instance payOf_storable (s : SemLoc sig) (c : Dev nD) (d : Fin 3) :
    BI.Storable (upEmb : UEmb _ 𝕄) (payOf A s c d) := by
  unfold payOf
  (repeat' split) <;> infer_instance
instance sched_payload_storable (g : GSem nD τ sig) (r : ℕ) (d : Fin 3) :
    BI.Storable (upEmb : UEmb _ 𝕄) ((sched A).payload g r d) := by
  show BI.Storable upEmb (payOf A g.2 g.1.1 d); infer_instance

section Facts

variable (t : Fin 2) (f : Fin 7) (c : Dev nD)

theorem duties_bar : (sched A).duties (bar c) 0 = Finset.univ := rfl
theorem duties_snd : (sched A).duties (snd t f c) 0 = {0} := by
  show dutySet (.dma (semAt cc0_scratch2 t f)) = {0}
  unfold dutySet; simp only [dec_snd]
theorem duties_rcv : (sched A).duties (rcv t f c) 0 = {0} := by
  show dutySet (.dma (semAt cc0_scratch3 t f)) = {0}
  unfold dutySet; simp only [dec_rcv]
theorem duties_later (g : GSem nD τ sig) : ∀ r, 1 ≤ r → (sched A).duties g r = ∅ :=
  fun r hr => by dsimp only [sched]; exact if_neg (fun h => by omega)

theorem amount_bar (d : Fin 3) : (sched A).amount (bar c) 0 d = 1 := rfl
theorem amount_snd (d : Fin 3) : (sched A).amount (snd t f c) 0 d = N := rfl
theorem amount_rcv (d : Fin 3) : (sched A).amount (rcv t f c) 0 d = N := rfl

theorem expect_bar : (sched A).expect (bar c) 0 = 3 := rfl
theorem expect_snd : (sched A).expect (snd t f c) 0 = N := by
  unfold Schedule.expect Schedule.amountOf
  rw [duties_snd, Finset.sum_singleton, amount_snd]
theorem expect_rcv : (sched A).expect (rcv t f c) 0 = N := by
  unfold Schedule.expect Schedule.amountOf
  rw [duties_rcv, Finset.sum_singleton, amount_rcv]

theorem payload_bar (d : Fin 3) : (sched A).payload (bar c) 0 d = barPay d c := rfl
theorem payload_snd (d : Fin 3) : (sched A).payload (snd t f c) 0 d = srcPay A t f c := by
  show payOf A (.dma (semAt cc0_scratch2 t f)) c d = _
  unfold payOf; simp only [dec_snd]
theorem payload_rcv (d : Fin 3) :
    (sched A).payload (rcv t f c) 0 d = slotB A t (land f c) fullShare c := by
  show payOf A (.dma (semAt cc0_scratch3 t f)) c d = _
  unfold payOf; simp only [dec_rcv]

theorem rest_bar : bigSep ((sched A).duties (bar c) 0 \ ∅) (fun d => (sched A).payload (bar c) 0 d)
    = (iprop(giveL (F := F) (rgt c) ∗ giveR (lft c) ∗ giveC (chd c)) : sProp 𝕄) := by
  rw [Finset.sdiff_empty, duties_bar, show (Finset.univ : Finset (Fin 3)) = {0, 1, 2} from rfl,
    bigSep_insert (by decide), bigSep_insert (by decide), bigSep_singleton]
  rfl
theorem rest_snd : bigSep ((sched A).duties (snd t f c) 0 \ ∅)
    (fun d => (sched A).payload (snd t f c) 0 d) = srcPay A t f c := by
  rw [Finset.sdiff_empty, duties_snd, bigSep_singleton, payload_snd]
theorem rest_rcv : bigSep ((sched A).duties (rcv t f c) 0 \ ∅)
    (fun d => (sched A).payload (rcv t f c) 0 d) = slotB A t (land f c) fullShare c := by
  rw [Finset.sdiff_empty, duties_rcv, bigSep_singleton, payload_rcv]

end Facts

/-! ## Debts and levels -/

/-- A list of debts, each one cell and an amount. -/
def owedL : List (GSem nD τ sig × ℕ) → CellTallies nD τ sig Unit
  | [] => 0
  | (g, n) :: l => owedL l + tallyAt g () n

def L (g : GSem nD τ sig) : Finset Unit := if g.1.2 = .tc then {()} else ∅

/-- The level of each landing: by the order in which the flows are waited for. -/
def lvF : Fin 7 → ℕ := ![2, 2, 3, 3, 4, 2, 3]

/-- The level of each cell: what a device still owes when it waits lies strictly above. -/
def lv (g : GSem nD τ sig) (_ : Unit) : ℕ :=
  match g.2 with
  | .reg _ => 1
  | .dma s => match dec s with
    | some (true, _, f) => lvF f
    | _ => 0

theorem L_tc (c : Dev nD) (sm : SemLoc sig) : L ((c : Thread nD τ), sm) = {()} := if_pos rfl
theorem L_of_ne (g : GSem nD τ sig) (h : g.1.2 ≠ .tc) : L g = ∅ := if_neg h
theorem lv_bar (c : Dev nD) : lv (bar c) () = 1 := rfl
theorem lv_rcv (t : Fin 2) (f : Fin 7) (c : Dev nD) : lv (rcv t f c) () = lvF f := by
  unfold lv; simp only [dec_rcv]
theorem lv_snd (t : Fin 2) (f : Fin 7) (c : Dev nD) : lv (snd t f c) () = 0 := by
  unfold lv; simp only [dec_snd]

theorem owedL_pos (l : List (GSem nD τ sig × ℕ)) (g : GSem nD τ sig) (u : Unit)
    (h : 0 < owedL l g u) : ∃ p ∈ l, p.1 = g := by
  induction l with
  | nil => exact absurd h (Nat.lt_irrefl 0)
  | cons p l ih =>
    obtain ⟨g', n⟩ := p
    by_cases hg : g = g'
    · exact ⟨_, List.mem_cons_self, hg.symm⟩
    · have h' : 0 < owedL l g u + tallyAt g' () n g u := h
      rw [tallyAt_apply, if_neg (fun h => hg h.1), Nat.add_zero] at h'
      obtain ⟨p, hp, hpg⟩ := ih h'
      exact ⟨p, List.mem_cons_of_mem _ hp, hpg⟩

/-- A device may wait for a cell whose level lies below all it owes. -/
theorem mayWait (c : Dev nD) (sm : SemLoc sig) (l : List (GSem nD τ sig × ℕ)) (k : ℕ)
    (hk : lv ((c : Thread nD τ), sm) () ≤ k) (hl : ∀ p ∈ l, p.1.1.2 = .tc ∧ k < lv p.1 ()) :
    (levAts L lv : sProp 𝕄) ⊢ MayWait (c : Thread nD τ) sm () (owedL l) :=
  MayOwe.of_cut (L := L) (lev := lv) k
    (fun p hp => by rw [Finset.mem_singleton.mp hp, L_tc]; exact Finset.mem_singleton_self _)
    (fun g u hg => by
      obtain ⟨p, hp, rfl⟩ := owedL_pos l g u hg
      unfold L; rw [if_pos (hl p hp).1]; exact Finset.mem_singleton_self _)
    (fun p hp => by rw [Finset.mem_singleton.mp hp]; exact hk)
    (fun g u hg => by
      obtain ⟨p, hp, rfl⟩ := owedL_pos l g u hg
      exact (hl p hp).2)

/-! ## The cells together -/

/-- The kernel's own DMA semaphores: out or landing, array, flow. -/
abbrev osem : Bool × Fin 2 × Fin 7 → SemLoc sig := fun k =>
  if k.1 then .dma (semAt cc0_scratch3 k.2.1 k.2.2) else .dma (semAt cc0_scratch2 k.2.1 k.2.2)

theorem osem_inj : Function.Injective osem := by decide +kernel
theorem osem_ne_bar : ∀ k, osem k ≠ .reg barS := by
  rintro ⟨b, t, f⟩ h; cases b <;> cases h

def barEmb : Dev nD ↪ GSem nD τ sig :=
  ⟨fun c => bar c, fun _ _ h => congrArg (fun g : GSem nD τ sig => g.1.1) h⟩
def ownEmb : Dev nD × (Bool × Fin 2 × Fin 7) ↪ GSem nD τ sig :=
  ⟨fun x => ((x.1 : Thread nD τ), osem x.2), fun _ _ h =>
    Prod.ext (congrArg (fun g : GSem nD τ sig => g.1.1) h) (osem_inj (congrArg Prod.snd h))⟩

/-- The barrier cells; the cells of the kernel's own semaphores. -/
abbrev barCells : Finset (GSem nD τ sig) := Finset.univ.map barEmb
abbrev ownCells : Finset (GSem nD τ sig) := Finset.univ.map ownEmb

theorem bar_mem (c : Dev nD) : bar c ∈ (barCells ∪ ownCells : Finset (GSem nD τ sig)) :=
  Finset.mem_union_left _ (Finset.mem_map_of_mem barEmb (Finset.mem_univ c))
theorem snd_mem (t : Fin 2) (f : Fin 7) (c : Dev nD) :
    snd t f c ∈ (barCells ∪ ownCells : Finset (GSem nD τ sig)) :=
  Finset.mem_union_right _ (Finset.mem_map_of_mem ownEmb (Finset.mem_univ (c, (false, t, f))))
theorem rcv_mem (t : Fin 2) (f : Fin 7) (c : Dev nD) :
    rcv t f c ∈ (barCells ∪ ownCells : Finset (GSem nD τ sig)) :=
  Finset.mem_union_right _ (Finset.mem_map_of_mem ownEmb (Finset.mem_univ (c, (true, t, f))))

/-- What every device may consult: all cells' invariants under one map of names, and that every
    barrier's round has begun, and the levels. -/
def recs (κ : GSem nD τ sig → ℕ) : sProp 𝕄 :=
  iprop((bigSep (barCells ∪ ownCells) fun g => cellInv ER (sched A) (κ g) g)
    ∗ (bigSep barCells fun g => reached ER g 0) ∗ levAts L lv)

instance recs_persistent (κ : GSem nD τ sig → ℕ) : BI.Persistent (recs A κ) := by
  unfold recs; infer_instance

theorem recs_inv (κ : GSem nD τ sig → ℕ) {g : GSem nD τ sig}
    (hg : g ∈ (barCells ∪ ownCells : Finset (GSem nD τ sig))) :
    recs A κ ⊢ cellInv ER (sched A) (κ g) g := by
  unfold recs
  exact sep_elim_left.trans (bigSep_elim hg)
theorem recs_bar (κ : GSem nD τ sig → ℕ) (c : Dev nD) : recs A κ ⊢ reached ER (bar c) 0 := by
  unfold recs
  exact sep_elim_right.trans (sep_elim_left.trans
    (bigSep_elim (Finset.mem_map_of_mem barEmb (Finset.mem_univ c))))
theorem recs_lev (κ : GSem nD τ sig → ℕ) : recs A κ ⊢ levAts L lv := by
  unfold recs
  iintro ⟨-, -, H⟩; iexact H

/-- The debt of a landing that device `c` causes along flow `f`. -/
abbrev debt (t : Fin 2) (f : Fin 7) (c : Dev nD) : GSem nD τ sig × ℕ := (rcv t f (peer f c), N)

/-- What device `c` owes from each stage of the body on, in program order. -/
def owe4 (c : Dev nD) : List (GSem nD τ sig × ℕ) := [debt 0 4 c, debt 1 4 c]
def owe2 (c : Dev nD) : List (GSem nD τ sig × ℕ) :=
  debt 0 2 c :: debt 0 3 c :: debt 0 6 c :: debt 1 2 c :: debt 1 3 c :: debt 1 6 c :: owe4 c
def owe1 (c : Dev nD) : List (GSem nD τ sig × ℕ) :=
  debt 0 0 c :: debt 0 1 c :: debt 0 5 c :: debt 1 0 c :: debt 1 1 c :: debt 1 5 c :: owe2 c
def owe0 (c : Dev nD) : List (GSem nD τ sig × ℕ) :=
  (bar (lft c), 1) :: (bar (rgt c), 1) :: (bar (chd c), 1) :: owe1 c

end Bsa

end
-- ==== Proof.Bsa.Steps.lean ====
/- One rule per kind of step of the protocol: a signal, a transfer of the own block, a transfer of a
   slot, a wait for a landing, a wait for a transfer out, the barrier's wait. -/
module

public import proofs.«01_k».proof.Proof.Bsa.Sched

@[expose] public section

noncomputable section

namespace Bsa

open Idealize.SL Idealize.SL.RA Idealize.SL.BI Idealize.SL.BI.Laws Idealize.SL.ProofMode Idealize.SL.Sem
open scoped Idealize.SL.BI
open Idealize.SL.BI.BIBase
open Idealize.ShloMosaic Idealize.ShloMosaic.TcCoe
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

abbrev 𝒱₀ : Variants := Variants.none

/-- The weakest precondition of a piece of the body on device `c`. -/
abbrev wpc {α : Type} (c : Dev nD) (p : Prog (TpuEff nD τ sig (Elt F) Λ₀ .tc) α)
    (Q : α → sProp 𝕄) : sProp 𝕄 :=
  wp frame (wpE (defs₀ (F := F)) 𝒱₀ (c : Thread nD τ) none) Set.univ p Q

/-- What device `c` owes, whatever waits it has recorded. -/
def owesL (c : Dev nD) (l : List (GSem nD τ sig × ℕ)) : sProp 𝕄 :=
  iprop(∃ W, owes (c : Thread nD τ) (owedL l) W)

variable (A : Fin 2 → Dev nD → Vec F S2x256x256 .bf16) (κ : GSem nD τ sig → ℕ) (c : Dev nD)

/-- A signal to device `d`'s barrier, paying its duty `j`. -/
theorem step_signal (d : Dev nD) (j : Fin 3) (dst : Dev nD) (hdst : dst = d)
    (l : List (GSem nD τ sig × ℕ)) (Q : PUnit → sProp 𝕄) :
    iprop(recs A κ ∗ owesL c ((bar d, 1) :: l) ∗ dutyTok ER (bar d) 0 j ∗ barPay j d)
      ⊢ iprop((owesL c l -∗ Q ⟨⟩) -∗ wpc c (semSignalWord dst barS 1#32) Q) := by
  subst hdst
  unfold owesL
  iintro ⟨#HR, ⟨%W, HO⟩, Ht, Hp⟩ Hk
  iapply (Rounds.wp_signal 𝒱₀ ER (sched A) (c : Thread nD τ) none (dst := (dst : Thread nD τ))
      (sem := barS) (r := 0) (d := j) (κ := κ (bar dst)) (k := .ret) (Q := Q)
      (by rw [duties_bar]; exact Finset.mem_univ _) (amount_bar A dst j) () (owedL l) rfl)
    $$ [HO Ht Hp]
  · isplitr; · iapply (recs_inv A κ (bar_mem dst)); iexact HR
    isplitl [HO]; · iexact HO
    isplitl [Ht]; · iexact Ht
    isplitl [Hp]; · rw [payload_bar]; iexact Hp
    iapply (recs_bar A κ dst); iexact HR
  iintro HO
  rw [wp_ret]
  imodintro
  iapply Hk
  iexists W; iexact HO

/-- The barrier's wait: everything the three neighbours hand over. -/
theorem step_barrier (l : List (GSem nD τ sig × ℕ)) (hl : ∀ p ∈ l, p.1.1.2 = .tc ∧ 1 < lv p.1 ())
    (Q : PUnit → sProp 𝕄) :
    iprop(recs A κ ∗ owesL c l ∗ cred (tallyAt (bar c) () 3) ∗ atPos ER (bar c) 0 ∅ 0)
      ⊢ iprop((iprop(owesL c l ∗ atPos ER (bar c) (0 + 1) ∅ 0
            ∗ giveL (F := F) (rgt c) ∗ giveR (F := F) (lft c) ∗ giveC (F := F) (chd c)) -∗ Q ⟨⟩)
          -∗ wpc c (semWaitWord barS 3#32) Q) := by
  unfold owesL
  iintro ⟨#HR, ⟨%W, HO⟩, Hc, Hat⟩ Hk
  iapply (Rounds.wp_wait_rest_token 𝒱₀ ER (sched A) (c : Thread nD τ) none (κ := κ (bar c))
      (wpE_semWait_eq 𝒱₀ (c : Thread nD τ) none Set.univ) (Set.mem_univ _) () (O := owedL l)
      (W := W) (R := 0) (m := 0) (T := ∅) (k := .ret) (Q := Q)
      ((Nat.zero_add 3).trans (expect_bar A c).symm)) $$ [HO Hc Hat]
  · isplitr; · iapply (recs_inv A κ (bar_mem c)); iexact HR
    isplitl [Hc]; · iexact Hc
    isplitl [HO]; · iexact HO
    isplitr; · iapply (mayWait c (.reg barS) l 1 (by rw [lv_bar]) hl); iapply (recs_lev A κ); iexact HR
    iexact Hat
  iintro ⟨HO, Hat, -, Hpay⟩
  ihave Hp := (Entails.of_eq (rest_bar A c)) $$ Hpay
  rw [wp_ret]
  imodintro
  iapply Hk
  isplitl [HO]; · iexists _; iexact HO
  isplitl [Hat]; · iexact Hat
  iexact Hp

/-- What a transfer of array `t` along flow `f` needs beside its source. -/
def sendKit (t : Fin 2) (f : Fin 7) : sProp 𝕄 :=
  iprop(dutyTok ER (snd t f c) 0 0 ∗ reached ER (snd t f c) 0 ∗ dutyTok ER (rcv t f (peer f c)) 0 0)

/-- A transfer of the own block: lends a share of it, fills the slot at the other end. -/
theorem step_sendOwn (t : Fin 2) (f : Fin 7) (hf : ownFlow f = true) (hown : own f c = c)
    (dst : Dev nD) (hdst : dst = peer f c) (off : Fin 4 → Nat) (h : SlotOk off)
    (hoff : off = offO c 0) (l : List (GSem nD τ sig × ℕ)) (Q : PUnit → sProp 𝕄) :
    iprop(recs A κ ∗ owesL c (debt t f c :: l) ∗ sendKit c t f ∗ ownB A t (shr f) c
        ∗ room t (own f c) (peer f c) ∗ reached ER (rcv t f (peer f c)) 0)
      ⊢ iprop((iprop(owesL c l ∗ cred (tallyAt (snd t f c) () N)) -∗ Q ⟨⟩)
          -∗ wpc c (sendOwn stgs stgs_whole bufs bufs_whole cc0_scratch2 cc0_scratch3 t f dst off h)
            Q) := by
  subst hdst hoff
  rw [hown]
  unfold owesL sendKit ownB room owns
  iintro ⟨#HR, ⟨%W, HO⟩, ⟨Hts, #Hrs, Htr⟩, ⟨%fs, %hfs, Hs⟩, ⟨%X, %fd, -, Hd⟩, #Hrr⟩ Hk
  iapply (Rounds.wp_send_pointsTo 𝒱₀ ER (sched A) (c : Thread nD τ) none
      (c' := (peer f c : Thread nD τ)) (src := stgs t) (dst := slotO t c)
      (sS := .dma (semAt cc0_scratch2 t f)) (sem := .dma (semAt cc0_scratch3 t f))
      (q := shr f) (fs := fs) (fd := fd)
      (κ₁ := κ (snd t f c)) (κ₂ := κ (rcv t f (peer f c)))
      (r₁ := 0) (r₂ := 0) (d₁ := 0) (d₂ := 0) (k := .ret) (Q := Q)
      (by rw [duties_snd]; exact Finset.mem_singleton_self _)
      (by rw [duties_rcv]; exact Finset.mem_singleton_self _)
      () () N rfl (amount_snd A t f c 0) (amount_rcv A t f (peer f c) 0) (owedL l) rfl (W := W)
      (by
        rw [payload_snd]; unfold srcPay; rw [if_pos hf]; unfold ownB; rw [← hfs]
        exact owns_intro (c : Thread nD τ) (stgs t) (shr f) fs)
      (by
        rw [payload_rcv, land_peer, hown]; unfold slotB; rw [← hfs]
        refine (owns_intro (peer f c : Thread nD τ) (slotO t c) fullShare _).trans ?_
        rw [View.read_write_univ])) $$ [Hs Hd HO Hts Htr]
  · isplitr; · iapply (recs_inv A κ (snd_mem t f c)); iexact HR
    isplitr; · iapply (recs_inv A κ (rcv_mem t f (peer f c))); iexact HR
    isplitl [Hs]; · iexact Hs
    isplitl [Hd]; · iexact Hd
    isplitl [HO]; · iexact HO
    isplitl [Hts]; · iexact Hts
    isplitr; · iexact Hrs
    isplitl [Htr]; · iexact Htr
    iexact Hrr
  iintro ⟨Hc, HO⟩
  rw [wp_ret]
  imodintro
  iapply Hk
  isplitl [HO]; · iexists W; iexact HO
  iexact Hc

/-- A transfer of a slot: lends a share of it, fills the same slot at the other end. -/
theorem step_sendSlot (t : Fin 2) (f : Fin 7) (hf : ownFlow f = false)
    (dst : Dev nD) (hdst : dst = peer f c) (off : Fin 4 → Nat) (h : SlotOk off)
    (hoff : off = offO (own f c) 0) (l : List (GSem nD τ sig × ℕ)) (Q : PUnit → sProp 𝕄) :
    iprop(recs A κ ∗ owesL c (debt t f c :: l) ∗ sendKit c t f ∗ slotB A t (own f c) (shr f) c
        ∗ room t (own f c) (peer f c) ∗ reached ER (rcv t f (peer f c)) 0)
      ⊢ iprop((iprop(owesL c l ∗ cred (tallyAt (snd t f c) () N)) -∗ Q ⟨⟩)
          -∗ wpc c (sendSlot bufs bufs_whole cc0_scratch2 cc0_scratch3 t f dst off h) Q) := by
  subst hdst hoff
  unfold owesL sendKit slotB room owns
  iintro ⟨#HR, ⟨%W, HO⟩, ⟨Hts, #Hrs, Htr⟩, ⟨%fs, %hfs, Hs⟩, ⟨%X, %fd, -, Hd⟩, #Hrr⟩ Hk
  iapply (Rounds.wp_send_pointsTo 𝒱₀ ER (sched A) (c : Thread nD τ) none
      (c' := (peer f c : Thread nD τ)) (src := slotO t (own f c)) (dst := slotO t (own f c))
      (sS := .dma (semAt cc0_scratch2 t f)) (sem := .dma (semAt cc0_scratch3 t f))
      (q := shr f) (fs := fs) (fd := fd)
      (κ₁ := κ (snd t f c)) (κ₂ := κ (rcv t f (peer f c)))
      (r₁ := 0) (r₂ := 0) (d₁ := 0) (d₂ := 0) (k := .ret) (Q := Q)
      (by rw [duties_snd]; exact Finset.mem_singleton_self _)
      (by rw [duties_rcv]; exact Finset.mem_singleton_self _)
      () () N rfl (amount_snd A t f c 0) (amount_rcv A t f (peer f c) 0) (owedL l) rfl (W := W)
      (by
        rw [payload_snd]; unfold srcPay; rw [if_neg (by rw [hf]; decide)]; unfold slotB; rw [← hfs]
        exact owns_intro (c : Thread nD τ) (slotO t (own f c)) (shr f) fs)
      (by
        rw [payload_rcv, land_peer]; unfold slotB; rw [← hfs]
        refine (owns_intro (peer f c : Thread nD τ) (slotO t (own f c)) fullShare _).trans ?_
        rw [View.read_write_univ])) $$ [Hs Hd HO Hts Htr]
  · isplitr; · iapply (recs_inv A κ (snd_mem t f c)); iexact HR
    isplitr; · iapply (recs_inv A κ (rcv_mem t f (peer f c))); iexact HR
    isplitl [Hs]; · iexact Hs
    isplitl [Hd]; · iexact Hd
    isplitl [HO]; · iexact HO
    isplitl [Hts]; · iexact Hts
    isplitr; · iexact Hrs
    isplitl [Htr]; · iexact Htr
    iexact Hrr
  iintro ⟨Hc, HO⟩
  rw [wp_ret]
  imodintro
  iapply Hk
  isplitl [HO]; · iexists W; iexact HO
  iexact Hc

/-- A wait on a DMA cell of the device: what its one payment hands over. -/
theorem step_wait {src : Σ sp s, Memref sig .tc sp s .bf16} {sp : Space} {s : Shape}
    {dst : Memref sig .tc sp s .bf16} {hsrc : src.2.2.view.WordExact} {hdst : dst.view.WordExact}
    (hN : dst.view.dmaCredit = N) (S : DmaSem sig) (P : sProp 𝕄)
    (hmem : ((c : Thread nD τ), SemLoc.dma S) ∈ (barCells ∪ ownCells : Finset (GSem nD τ sig)))
    (hE : (sched A).expect ((c : Thread nD τ), .dma S) 0 = N)
    (hrest : bigSep ((sched A).duties ((c : Thread nD τ), .dma S) 0 \ ∅)
      (fun d => (sched A).payload ((c : Thread nD τ), .dma S) 0 d) = P)
    (l : List (GSem nD τ sig × ℕ)) (k : ℕ) (hk : lv ((c : Thread nD τ), .dma S) () ≤ k)
    (hl : ∀ p ∈ l, p.1.1.2 = .tc ∧ k < lv p.1 ()) (Q : PUnit → sProp 𝕄) :
    iprop(recs A κ ∗ owesL c l ∗ cred (tallyAt ((c : Thread nD τ), .dma S) () N)
        ∗ atPos ER ((c : Thread nD τ), .dma S) 0 ∅ 0)
      ⊢ iprop((iprop(owesL c l ∗ atPos ER ((c : Thread nD τ), .dma S) (0 + 1) ∅ 0 ∗ P) -∗ Q ⟨⟩)
          -∗ wpc c (Prog.lift (.waitDma2 S src.2.2 dst hsrc hdst)) Q) := by
  unfold owesL
  iintro ⟨#HR, ⟨%W, HO⟩, Hc, Hat⟩ Hk
  iapply (Rounds.wp_wait_rest_token 𝒱₀ ER (sched A) (c : Thread nD τ) none
      (κ := κ ((c : Thread nD τ), .dma S)) (k' := N)
      (by rw [← hN]; exact wpE_waitDma2_eq 𝒱₀ (c : Thread nD τ) none Set.univ) (Set.mem_univ _) () (O := owedL l)
      (W := W) (R := 0) (m := 0) (T := ∅) (k := .ret) (Q := Q)
      ((Nat.zero_add N).trans hE.symm)) $$ [HO Hc Hat]
  · isplitr; · iapply (recs_inv A κ hmem); iexact HR
    isplitl [Hc]; · iexact Hc
    isplitl [HO]; · iexact HO
    isplitr; · iapply (mayWait c (.dma S) l k hk hl); iapply (recs_lev A κ); iexact HR
    iexact Hat
  iintro ⟨HO, Hat, -, Hpay⟩
  ihave Hp := (Entails.of_eq hrest) $$ Hpay
  rw [wp_ret]
  imodintro
  iapply Hk
  isplitl [HO]; · iexists _; iexact HO
  isplitl [Hat]; · iexact Hat
  iexact Hp

/-- What a device waits for a landing with; what it waits for a transfer out with. -/
def recvKit (t : Fin 2) (f : Fin 7) : sProp 𝕄 :=
  iprop(cred (tallyAt (rcv t f c) () N) ∗ atPos ER (rcv t f c) 0 ∅ 0)
def sentKit (t : Fin 2) (f : Fin 7) : sProp 𝕄 :=
  iprop(cred (tallyAt (snd t f c) () N) ∗ atPos ER (snd t f c) 0 ∅ 0)

/-- The landing of a block sent by its owner. -/
theorem step_recvOwn (t : Fin 2) (f : Fin 7) (off : Fin 4 → Nat) (h : SlotOk off)
    (l : List (GSem nD τ sig × ℕ)) (hl : ∀ p ∈ l, p.1.1.2 = .tc ∧ lvF f < lv p.1 ())
    (Q : PUnit → sProp 𝕄) :
    iprop(recs A κ ∗ owesL c l ∗ recvKit c t f)
      ⊢ iprop((iprop(owesL c l ∗ atPos ER (rcv t f c) (0 + 1) ∅ 0
            ∗ slotB A t (land f c) fullShare c) -∗ Q ⟨⟩)
          -∗ wpc c (recvOwn stgs stgs_whole bufs bufs_whole cc0_scratch3 t f off h) Q) :=
  step_wait A κ c (src := ⟨_, _, stgs t⟩) (dst := slotAt (bufs t) off h)
    rfl (semAt cc0_scratch3 t f) _ (rcv_mem t f c) (expect_rcv A t f c) (rest_rcv A t f c) l (lvF f)
    (by rw [lv_rcv]) hl Q

/-- The landing of a block passed on. -/
theorem step_recvSlot (t : Fin 2) (f : Fin 7) (off : Fin 4 → Nat) (h : SlotOk off)
    (l : List (GSem nD τ sig × ℕ)) (hl : ∀ p ∈ l, p.1.1.2 = .tc ∧ lvF f < lv p.1 ())
    (Q : PUnit → sProp 𝕄) :
    iprop(recs A κ ∗ owesL c l ∗ recvKit c t f)
      ⊢ iprop((iprop(owesL c l ∗ atPos ER (rcv t f c) (0 + 1) ∅ 0
            ∗ slotB A t (land f c) fullShare c) -∗ Q ⟨⟩)
          -∗ wpc c (recvSlot bufs bufs_whole cc0_scratch3 t f off h) Q) :=
  step_wait A κ c (src := ⟨_, _, slotAt (bufs t) off h⟩) (dst := slotAt (bufs t) off h)
    rfl (semAt cc0_scratch3 t f) _ (rcv_mem t f c) (expect_rcv A t f c) (rest_rcv A t f c) l (lvF f)
    (by rw [lv_rcv]) hl Q

/-- The end of a transfer of the own block. -/
theorem step_sentOwn (t : Fin 2) (f : Fin 7) (off : Fin 4 → Nat) (h : SlotOk off)
    (Q : PUnit → sProp 𝕄) :
    iprop(recs A κ ∗ owesL c [] ∗ sentKit c t f)
      ⊢ iprop((iprop(owesL c [] ∗ atPos ER (snd t f c) (0 + 1) ∅ 0 ∗ srcPay A t f c) -∗ Q ⟨⟩)
          -∗ wpc c (sentOwn stgs stgs_whole bufs bufs_whole cc0_scratch2 t f off h) Q) :=
  step_wait A κ c (src := ⟨_, _, slotAt (bufs t) off h⟩) (dst := stgs t)
    rfl (semAt cc0_scratch2 t f) _ (snd_mem t f c) (expect_snd A t f c) (rest_snd A t f c) [] 0
    (by rw [lv_snd]) (fun p hp => absurd hp List.not_mem_nil) Q

/-- The end of a transfer of a slot. -/
theorem step_sentSlot (t : Fin 2) (f : Fin 7) (off : Fin 4 → Nat) (h : SlotOk off)
    (Q : PUnit → sProp 𝕄) :
    iprop(recs A κ ∗ owesL c [] ∗ sentKit c t f)
      ⊢ iprop((iprop(owesL c [] ∗ atPos ER (snd t f c) (0 + 1) ∅ 0 ∗ srcPay A t f c) -∗ Q ⟨⟩)
          -∗ wpc c (recvSlot bufs bufs_whole cc0_scratch2 t f off h) Q) :=
  step_wait A κ c (src := ⟨_, _, slotAt (bufs t) off h⟩) (dst := slotAt (bufs t) off h)
    rfl (semAt cc0_scratch2 t f) _ (snd_mem t f c) (expect_snd A t f c) (rest_snd A t f c) [] 0
    (by rw [lv_snd]) (fun p hp => absurd hp List.not_mem_nil) Q

end Bsa

end
-- ==== Proof.Bsa.Loads.lean ====
/- The reads and writes of the body that stay on the device: a chunk's keys and values out of a slot or
   out of the staged block, the queries' operands, the output rows. -/
module

public import proofs.«01_k».proof.Proof.Bsa.Steps
public import Idealize.ShloMosaic.Lib.Pipeline.Value

@[expose] public section

noncomputable section

namespace Bsa

open Idealize.SL Idealize.SL.RA Idealize.SL.BI Idealize.SL.BI.Laws Idealize.SL.ProofMode Idealize.SL.Sem
open scoped Idealize.SL.BI
open Idealize.SL.BI.BIBase
open Idealize.ShloMosaic Idealize.ShloMosaic.TcCoe
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

/-- One batch entry of a block, as a matrix. -/
def entry (X : Vec F S2x256x256 .bf16) (b : Fin 2) : FVec F S256x256 .bf16 :=
  fun i => X (Fin.cons b i)

/-- Dropping the two unit axes of a loaded entry. -/
theorem drop2_apply (v : Vec F S1x1x256x256 .bf16) (i : S256x256.Idx) :
    shapeCast S256x256 v shapeCasts_S1x1x256x256_S256x256 i
      = v (Fin.cons ⟨0, Nat.one_pos⟩ (Fin.cons ⟨0, Nat.one_pos⟩ i)) := by
  refine shapeCast_apply v _ i _ ?_
  show (Shape.rowMajorPi (Matrix.vecCons 1 (Matrix.vecCons 1 ![256, 256]))
    (Fin.cons ⟨0, Nat.one_pos⟩ (Fin.cons ⟨0, Nat.one_pos⟩ i))).val
      = (Shape.rowMajorPi ![256, 256] i).val
  rw [Shape.rowMajorPi_succ_val]
  show 0 * _ + (Shape.rowMajorPi (Matrix.vecCons 1 ![256, 256]) (Fin.cons ⟨0, Nat.one_pos⟩ i)).val = _
  rw [Shape.rowMajorPi_succ_val]
  show 0 * _ + (0 * _ + (Shape.rowMajorPi ![256, 256] i).val) = _
  omega

theorem inb_entry (o : Dev nD) (b : Fin 2) :
    ∀ a, offO o b a + S1x1x256x256.size a ≤ S8x2x256x256.size a := by
  revert o b; decide

/-- The elements of a batch entry lie in the slot. -/
theorem entry_sub (o : Dev nD) (b : Fin 2)
    (h : ∀ a, offO o b a + S1x1x256x256.size a ≤ S8x2x256x256.size a) :
    (Rect.unit (s := S8x2x256x256) (offO o b) S1x1x256x256.size h).set
      ⊆ (Rect.unit (s := S8x2x256x256) (offO o 0) S1x2x256x256.size (okO o).inb).set := by
  intro i hi
  rw [Rect.mem_set_unit] at hi ⊢
  intro a
  have := hi a
  fin_cases a <;> simp [offO] at this ⊢ <;> omega

/-- What is loaded from a slot that holds `X`. -/
theorem load_slot_eq (t : Fin 2) (o : Dev nD) (b : Fin 2) (X : Vec F S2x256x256 .bf16)
    (h : ∀ a, offO o b a + S1x1x256x256.size a ≤ S8x2x256x256.size a)
    (f : (bufs t).view.ty.Contents (Elt F)) (hf : (slotO t o).view.read (Elt F) f = X) :
    shapeCast S256x256 ((bufs t).view.readAt (Elt F)
        (Rect.unit (s := S8x2x256x256) (offO o b) S1x1x256x256.size h).toLoadRect f)
      shapeCasts_S1x1x256x256_S256x256 = entry X b := by
  subst hf
  funext i
  refine (drop2_apply (F := F) _ i).trans ?_
  unfold entry
  have e := Memref.read_squeeze_slice (Val := Elt F) (bufs t)
    (Rect.unit (s := S8x2x256x256) (offO o 0) S1x2x256x256.size (okO o).inb) (fun _ => rfl)
    squeezes_S1x2x256x256_S2x256x256 (by decide : S1x2x256x256.ShapeCasts S2x256x256) f
  rw [show (slotO t o).view.read (Elt F) f = _ from e]
  refine Eq.trans ?_ (shapeCast_dropUnit_apply ![2, 256, 256] _ _ _).symm
  rw [View.readAt_apply, View.readAt_apply]
  refine congrArg _ (funext fun a => Fin.ext ?_)
  fin_cases a
  · rfl
  · simp only [LoadRect.idx_apply]
    show b.val + 1 * 0 = 0 + 1 * b.val
    omega
  · rfl
  · rfl

/-- What is loaded from the staged block that holds `X`. -/
theorem load_own_eq (t : Fin 2) (b : Fin 2) (X : Vec F S2x256x256 .bf16) (off : Fin 3 → Nat)
    (hoff : off = ![b.val, 0, 0]) (h : ∀ a, off a + S1x256x256.size a ≤ S2x256x256.size a)
    (f : (stgs t).view.ty.Contents (Elt F)) (hf : (stgs t).view.read (Elt F) f = X) :
    shapeCast S256x256 ((stgs t).view.readAt (Elt F)
        (Rect.unit (s := S2x256x256) off S1x256x256.size h).toLoadRect f)
      shapeCasts_S1x256x256_S256x256 = entry X b := by
  subst hf hoff
  funext i
  refine (shapeCast_dropUnit_apply ![256, 256] _ _ _).trans ?_
  unfold entry
  rw [View.readAt_apply]
  refine congrArg _ (funext fun a => Fin.ext ?_)
  fin_cases a <;> simp [LoadRect.idx_apply] <;> rfl

theorem entries (X : Vec F S2x256x256 .bf16) : ![entry X 0, entry X 1] = entry X := by
  funext b; fin_cases b <;> rfl

variable (A : Fin 2 → Dev nD → Vec F S2x256x256 .bf16) (c : Dev nD)

/-- A load of one batch entry of a slot. -/
theorem step_loadSlot (t : Fin 2) (o : Dev nD) (b : Fin 2) (q : PosShare TreeShare)
    (f : (slotO t o).view.ty.Contents (Elt F)) (off : Fin 4 → Nat)
    (h : ∀ a, off a + S1x1x256x256.size a ≤ S8x2x256x256.size a) (hoff : off = offO o b)
    (Q : Vec F S1x1x256x256 .bf16 → sProp 𝕄) :
    ((slotO t o).view.loc (c : Thread nD τ) ↦[(slotO t o).view.set]{q} f : sProp 𝕄)
      ⊢ iprop((((slotO t o).view.loc (c : Thread nD τ) ↦[(slotO t o).view.set]{q} f)
            -∗ Q ((bufs t).view.readAt (Elt F)
              (Rect.unit (s := S8x2x256x256) off S1x1x256x256.size h).toLoadRect f))
          -∗ wpc c (loadSlot bufs t off h) Q) := by
  subst hoff
  iintro H Hk
  iapply (wp_load 𝒱₀ (c : Thread nD τ) none Set.univ (m := bufs t)
      (r := (Rect.unit (s := S8x2x256x256) (offO o b) S1x1x256x256.size h).toLoadRect)
      (S := (slotO t o).view.set) (q := q) (f := f) (k := .ret) (Q := Q) (by
        rw [show (slotO t o).view.set = ((bufs t).view.slice
            (Rect.unit (s := S8x2x256x256) (offO o 0) S1x2x256x256.size (okO o).inb)).set from
          Memref.set_view_squeeze _ squeezes_S1x2x256x256_S2x256x256, View.set_slice]
        exact Finset.map_subset_map.mpr (entry_sub o b h))) $$ H
  iintro H
  rw [wp_ret]
  imodintro
  iapply Hk
  iexact H

theorem off_own (b : Fin 2) (n : ℕ) (hn : n = b.val) : (![n, 0, 0] : Fin 3 → ℕ) = ![b.val, 0, 0] := by
  rw [hn]

/-- A load of one batch entry of the staged block. -/
theorem step_loadOwn (t b : Fin 2) (q : PosShare TreeShare) (off : Fin 3 → Nat)
    (hoff : off = ![b.val, 0, 0])
    (h : ∀ a, off a + S1x256x256.size a ≤ S2x256x256.size a)
    (Q : Vec F S1x256x256 .bf16 → sProp 𝕄) :
    (ownB A t q c : sProp 𝕄)
      ⊢ iprop((∀ v : Vec F S1x256x256 .bf16,
            iprop(⌜shapeCast S256x256 v shapeCasts_S1x256x256_S256x256 = entry (A t c) b⌝)
            -∗ ownB A t q c -∗ Q v)
          -∗ wpc c (loadOwn stgs t off h) Q) := by
  unfold ownB owns
  iintro ⟨%f, %hf, H⟩ Hk
  iapply (wp_load 𝒱₀ (c : Thread nD τ) none Set.univ (m := stgs t)
      (r := (Rect.unit (s := S2x256x256) off S1x256x256.size h).toLoadRect)
      (S := (stgs t).view.set) (q := q) (f := f) (k := .ret) (Q := Q)
      (Finset.map_subset_map.mpr (Finset.subset_univ _))) $$ H
  iintro H
  rw [wp_ret]
  imodintro
  iapply Hk $$ %((stgs t).view.readAt (Elt F)
    (Rect.unit (s := S2x256x256) off S1x256x256.size h).toLoadRect f) [] [H]
  · ipureintro; exact load_own_eq t b (A t c) off hoff h f hf
  iexists f; isplitr; · ipureintro; exact hf
  iexact H

/-- A chunk read from the slots of device `o`'s blocks. -/
theorem step_chunk (o : Dev nD) (q0 q1 : PosShare TreeShare) (w : BitVec 32) (hw : w = devW o)
    (q : FVec F S512x256 .f32) (st : St F) (off off' : Fin 4 → Nat)
    (h : ∀ a, off a + S1x1x256x256.size a ≤ S8x2x256x256.size a)
    (h' : ∀ a, off' a + S1x1x256x256.size a ≤ S8x2x256x256.size a)
    (hoff : off = offO o 0) (hoff' : off' = offO o 1) (Q : St F → sProp 𝕄) :
    iprop(slotB A 0 o q0 c ∗ slotB A 1 o q1 c)
      ⊢ iprop((iprop(slotB A 0 o q0 c ∗ slotB A 1 o q1 c)
            -∗ Q (chunkStep (devW c) (devW o) q (entry (A 0 o)) (entry (A 1 o)) st))
          -∗ wpc c (chunkC bufs c w q st off off' h h') Q) := by
  subst hw
  unfold slotB owns chunkC
  simp only [wp_bind]
  iintro ⟨⟨%f0, %h0, H0⟩, ⟨%f1, %h1, H1⟩⟩ Hk
  iapply (step_loadSlot c 0 o 0 q0 f0 off h hoff _) $$ H0
  iintro H0
  iapply (step_loadSlot c 1 o 0 q1 f1 off h hoff _) $$ H1
  iintro H1
  iapply (step_loadSlot c 0 o 1 q0 f0 off' h' hoff' _) $$ H0
  iintro H0
  iapply (step_loadSlot c 1 o 1 q1 f1 off' h' hoff' _) $$ H1
  iintro H1
  rw [wp_pure]
  subst hoff hoff'
  rw [load_slot_eq 0 o 0 _ h f0 h0, load_slot_eq 1 o 0 _ h f1 h1,
    load_slot_eq 0 o 1 _ h' f0 h0, load_slot_eq 1 o 1 _ h' f1 h1, entries, entries, myW_eq]
  imodintro
  iapply Hk
  isplitl [H0]
  · iexists f0; isplitr; · ipureintro; exact h0
    iexact H0
  iexists f1; isplitr; · ipureintro; exact h1
  iexact H1

/-- The device's own chunk, read from the staged blocks. -/
theorem step_chunkOwn (q0 q1 : PosShare TreeShare) (q : FVec F S512x256 .f32)
    (Q : St F → sProp 𝕄) :
    iprop(ownB A 0 q0 c ∗ ownB A 1 q1 c)
      ⊢ iprop((iprop(ownB A 0 q0 c ∗ ownB A 1 q1 c)
            -∗ Q (chunkStep (devW c) (devW c) q (entry (A 0 c)) (entry (A 1 c)) st0))
          -∗ wpc c (chunkOwnC stgs c q) Q) := by
  unfold chunkOwnC
  simp only [wp_bind]
  iintro ⟨H0, H1⟩ Hk
  iapply (step_loadOwn A c 0 0 q0 ![0, 0, 0] (off_own 0 0 rfl)
    inb_S2x256x256_S1x256x256_0_0_0 _) $$ H0
  iintro %k0 %hk0 H0
  iapply (step_loadOwn A c 1 0 q1 ![0, 0, 0] (off_own 0 0 rfl)
    inb_S2x256x256_S1x256x256_0_0_0 _) $$ H1
  iintro %v0 %hv0 H1
  iapply (step_loadOwn A c 0 1 q0 ![1, 0, 0] (off_own 1 1 rfl)
    inb_S2x256x256_S1x256x256_1_0_0 _) $$ H0
  iintro %k1 %hk1 H0
  iapply (step_loadOwn A c 1 1 q1 ![1, 0, 0] (off_own 1 1 rfl)
    inb_S2x256x256_S1x256x256_1_0_0 _) $$ H1
  iintro %v1 %hv1 H1
  rw [wp_pure, hk0, hv0, hk1, hv1, entries, entries, myW_eq]
  imodintro
  iapply Hk
  isplitl [H0]
  · iexact H0
  iexact H1

/-- A load of a whole staged operand. -/
theorem step_loadWhole {s : Shape} {e : EltTy} (m : Memref sig .tc .vmem s e) (X : Vec F s e)
    (off : Fin s.rank → Nat) (hoff : off = fun _ => 0) (h : ∀ a, off a + s.size a ≤ s.size a)
    (hl : m.view.LoadsAt (Rect.unit (s := s) off s.size h).toLoadRect)
    (Q : Vec F s e → sProp 𝕄) :
    (owns (c : Thread nD τ) m fullShare X : sProp 𝕄)
      ⊢ iprop((owns (c : Thread nD τ) m fullShare X -∗ Q X)
          -∗ wpc c (Prog.lift (.load m (Rect.unit (s := s) off s.size h).toLoadRect hl)) Q) := by
  subst hoff
  unfold owns
  iintro ⟨%f, %hf, H⟩ Hk
  iapply (wp_load 𝒱₀ (c : Thread nD τ) none Set.univ (m := m)
      (r := (Rect.unit (s := s) (fun _ => 0) s.size h).toLoadRect) (k := .ret)
      (S := m.view.set) (q := fullShare) (f := f) (Q := Q)
      (Finset.map_subset_map.mpr (Finset.subset_univ _))) $$ H
  iintro H
  rw [wp_ret, show m.view.readAt (Elt F) (Rect.unit (s := s) (fun _ => 0) s.size h).toLoadRect f = X
    from by
      rw [← hf]; funext i; rw [View.readAt_apply]
      exact congrArg _ (funext fun a => Fin.ext (by simp [LoadRect.idx_apply]))]
  imodintro
  iapply Hk
  iexists f; isplitr; · ipureintro; exact hf
  iexact H

/-- The queries. -/
theorem step_queries (ax : Memref sig .tc .vmem S2x256x512 .f32)
    (awq : Memref sig .tc .vmem S512x256 .f32) (x : Vec F S2x256x512 .f32)
    (wq : Vec F S512x256 .f32) (Q : FVec F S512x256 .f32 → sProp 𝕄) :
    iprop(owns (c : Thread nD τ) ax fullShare x ∗ owns (c : Thread nD τ) awq fullShare wq)
      ⊢ iprop((iprop(owns (c : Thread nD τ) ax fullShare x ∗ owns (c : Thread nD τ) awq fullShare wq)
            -∗ Q (queries x wq))
          -∗ wpc c (queriesC ax awq) Q) := by
  unfold queriesC
  simp only [wp_bind]
  iintro ⟨H0, H1⟩ Hk
  iapply (step_loadWhole c ax x ![0, 0, 0] (by funext a; fin_cases a <;> rfl) _ _ _) $$ H0
  iintro H0
  iapply (step_loadWhole c awq wq ![0, 0] (by funext a; fin_cases a <;> rfl) _ _ _) $$ H1
  iintro H1
  rw [wp_pure]
  imodintro
  iapply Hk
  isplitl [H0]
  · iexact H0
  iexact H1

/-- The batch entry of a place of the output; the place within that entry. -/
def bOf (i : S2x256x512.Idx) : Fin 2 := i 0
def rowIdx (i : S2x256x512.Idx) : S1x256x512.Idx :=
  Fin.cons (α := fun a : Fin 3 => Fin (S1x256x512.size a)) ⟨0, Nat.one_pos⟩ (fun a : Fin 2 => i a.succ)

/-- The output array with the rows of batch entry `b` replaced. -/
def putRow (b : Fin 2) (Y : FVec F S1x256x512 .f32) (X : Vec F S2x256x512 .f32) :
    Vec F S2x256x512 .f32 := fun i => if bOf i = b then Y (rowIdx i) else X i

/-- The output rows of both batch entries. -/
def outArr (st : St F) (wo : Vec F S256x512 .f32) : Vec F S2x256x512 .f32 := fun i =>
  outRows (st (bOf i)) wo (rowIdx i)

theorem put_put (st : St F) (wo : Vec F S256x512 .f32) (X : Vec F S2x256x512 .f32) :
    putRow 1 (outRows (st 1) wo) (putRow 0 (outRows (st 0) wo) X) = outArr st wo := by
  funext i
  unfold putRow outArr
  generalize bOf i = b
  fin_cases b
  · exact (if_neg (by decide)).trans (if_pos rfl)
  · exact if_pos rfl

/-- What the output array reads as after the store of batch entry `b`. -/
theorem read_putRow (m : Memref sig .tc .vmem S2x256x512 .f32) (b : Fin 2) (off : Fin 3 → Nat)
    (hoff : off = ![b.val, 0, 0]) (h : ∀ a, off a + S1x256x512.size a ≤ S2x256x512.size a)
    (Y : FVec F S1x256x512 .f32) (f : m.view.ty.Contents (Elt F)) :
    m.view.read (Elt F) ((m.access (Rect.unit (s := S2x256x512) off S1x256x512.size h)).write (Elt F)
      f Y Finset.univ) = putRow b Y (m.view.read (Elt F) f) := by
  subst hoff
  funext i
  unfold putRow
  by_cases hb : bOf i = b
  · rw [if_pos hb]
    have hi : (Rect.unit (s := S2x256x512) ![b.val, 0, 0] S1x256x512.size h).emb
        (rowIdx i) = i := by
      funext a; apply Fin.ext
      rw [Rect.emb_apply]
      match a with
      | 0 => show b.val + 1 * 0 = (bOf i).val; rw [hb]; omega
      | 1 => show 0 + 1 * (i 1).val = (i 1).val; omega
      | 2 => show 0 + 1 * (i 2).val = (i 2).val; omega
    conv_lhs => rw [← hi]
    exact View.read_slice_write_emb (Val := Elt F) (v := m.view)
      (Rect.unit (s := S2x256x512) ![b.val, 0, 0] S1x256x512.size h) f Y (x := rowIdx i)
      (Finset.mem_univ _)
  · rw [if_neg hb]
    refine View.read_slice_write_of_not_mem (Val := Elt F) (v := m.view)
      (Rect.unit (s := S2x256x512) ![b.val, 0, 0] S1x256x512.size h) f Y Finset.univ (y := i) ?_
    intro hm
    obtain ⟨x, _, hx⟩ := Finset.mem_map.mp hm
    refine hb (Fin.ext ?_)
    unfold bOf
    rw [← hx, Rect.emb_apply]
    show b.val + 1 * (x 0).val = b.val
    have : (x 0).val < 1 := (x 0).isLt
    omega

/-- The output rows of one batch entry, stored. -/
theorem step_out (awo : Memref sig .tc .vmem S256x512 .f32)
    (aout : Memref sig .tc .vmem S2x256x512 .f32) (b : Fin 2) (st : Fin 4 → Row F)
    (wo : Vec F S256x512 .f32) (X : Vec F S2x256x512 .f32) (off : Fin 3 → Nat)
    (hoff : off = ![b.val, 0, 0]) (h : ∀ a, off a + S1x256x512.size a ≤ S2x256x512.size a)
    (Q : PUnit → sProp 𝕄) :
    iprop(owns (c : Thread nD τ) awo fullShare wo ∗ owns (c : Thread nD τ) aout fullShare X)
      ⊢ iprop((iprop(owns (c : Thread nD τ) awo fullShare wo
            ∗ owns (c : Thread nD τ) aout fullShare (putRow b (outRows st wo) X)) -∗ Q ⟨⟩)
          -∗ wpc c (outC awo aout st off h) Q) := by
  unfold outC
  simp only [wp_bind]
  iintro ⟨H0, H1⟩ Hk
  iapply (step_loadWhole c awo wo ![0, 0] (by funext a; fin_cases a <;> rfl) _ _ _) $$ H0
  iintro H0
  ihave H1' := (show owns (c : Thread nD τ) aout fullShare X
    ⊢ (iprop(∃ g, ⌜aout.view.read (Elt F) g = X⌝
      ∗ aout.view.loc (c : Thread nD τ) ↦[aout.view.set]{fullShare} g) : sProp 𝕄) from .rfl) $$ H1
  icases H1' with ⟨%f, %hf, H1⟩
  iapply (wp_load 𝒱₀ (c : Thread nD τ) none Set.univ (m := aout)
      (r := (Rect.unit (s := S2x256x512) off S1x256x512.size h).toLoadRect) (k := .ret)
      (S := aout.view.set) (q := fullShare) (f := f)
      (Finset.map_subset_map.mpr (Finset.subset_univ _))) $$ H1
  iintro H1
  rw [wp_ret]
  imodintro
  iapply (wp_store 𝒱₀ (c : Thread nD τ) none Set.univ (m := aout)
      (r := Rect.unit (s := S2x256x512) off S1x256x512.size h) (w := outRows st wo) (k := .ret)
      (S := aout.view.set) (f := f) (Q := Q)
      (View.set_slice_subset _ _)) $$ H1
  iintro H1
  rw [wp_ret]
  imodintro
  iapply Hk
  isplitl [H0]
  · iexact H0
  rw [← hf, ← read_putRow aout b off hoff h (outRows st wo) f]
  iapply (owns_intro (c : Thread nD τ) aout fullShare _)
  iexact H1

end Bsa

end
-- ==== Proof.Bsa.Stages.lean ====
/- The stages of the body at a symbolic device `c`: the barrier and the first transfers, the second step,
   the third step, and the final waits. Each states what the stage takes and what it leaves, both
   arrays together, flow by flow. -/
module

public import proofs.«01_k».proof.Proof.Bsa.Loads

@[expose] public section

noncomputable section

namespace Bsa

open Idealize.SL Idealize.SL.RA Idealize.SL.BI Idealize.SL.BI.Laws Idealize.SL.ProofMode Idealize.SL.Sem
open scoped Idealize.SL.BI
open Idealize.SL.BI.BIBase
open Idealize.ShloMosaic Idealize.ShloMosaic.TcCoe
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (A : Fin 2 → Dev nD → Vec F S2x256x256 .bf16) (κ : GSem nD τ sig → ℕ) (c : Dev nD)

/-! ## Bundles, both arrays together -/

/-- The tickets of the two transfers along flow `f`. -/
def sendF (f : Fin 7) : sProp 𝕄 := iprop(sendKit (F := F) c 0 f ∗ sendKit (F := F) c 1 f)
/-- The slots at the other end of flow `f`, their landing cells ready. -/
def goF (f : Fin 7) : sProp 𝕄 :=
  iprop(room (F := F) 0 (own f c) (peer f c) ∗ room (F := F) 1 (own f c) (peer f c)
    ∗ reached ER (rcv 0 f (peer f c)) 0 ∗ reached ER (rcv 1 f (peer f c)) 0)
/-- The shares the two transfers along flow `f` borrow. -/
def srcF (f : Fin 7) : sProp 𝕄 := iprop(srcPay A 0 f c ∗ srcPay A 1 f c)
/-- What the final waits on flow `f` take beside the cells. -/
def credF (f : Fin 7) : sProp 𝕄 :=
  iprop(cred (tallyAt (snd 0 f c) () N) ∗ cred (tallyAt (snd 1 f c) () N))
/-- The cells of the transfers out, and of the landings, before and after their waits. -/
def atS (n : ℕ) (f : Fin 7) : sProp 𝕄 :=
  iprop(atPos ER (snd 0 f c) n ∅ 0 ∗ atPos ER (snd 1 f c) n ∅ 0)
def atR (n : ℕ) (f : Fin 7) : sProp 𝕄 :=
  iprop(atPos ER (rcv 0 f c) n ∅ 0 ∗ atPos ER (rcv 1 f c) n ∅ 0)
/-- What the waits for the landings on flow `f` take. -/
def recvF (f : Fin 7) : sProp 𝕄 := iprop(recvKit (F := F) c 0 f ∗ recvKit (F := F) c 1 f)
/-- Both slots for device `o`, holding its blocks, at a share. -/
def slotF (o : Dev nD) (q : PosShare TreeShare) : sProp 𝕄 :=
  iprop(slotB A 0 o q c ∗ slotB A 1 o q c)
/-- Both own blocks at a share. -/
def ownF (q : PosShare TreeShare) : sProp 𝕄 := iprop(ownB A 0 q c ∗ ownB A 1 q c)

/-- The tickets of the barrier: its signals, and its wait. -/
def barKit : sProp 𝕄 :=
  iprop(dutyTok ER (bar (lft c)) 0 0 ∗ dutyTok ER (bar (rgt c)) 0 1 ∗ dutyTok ER (bar (chd c)) 0 2
    ∗ cred (tallyAt (bar c) () 3) ∗ atPos ER (bar c) 0 ∅ 0)

theorem srcF_own (f : Fin 7) (h : ownFlow f = true) : srcF A c f = ownF A c (shr f) := by
  unfold srcF ownF srcPay; rw [if_pos h, if_pos h]
theorem srcF_slot (f : Fin 7) (h : ownFlow f = false) :
    srcF A c f = slotF A c (own f c) (shr f) := by
  unfold srcF slotF srcPay; rw [if_neg (by rw [h]; decide), if_neg (by rw [h]; decide)]

/-- Debts for landings lie above a level when their flows' levels do. -/
theorem above (k : ℕ) (l : List (Fin 2 × Fin 7)) (h : ∀ x ∈ l, k < lvF x.2) :
    ∀ p ∈ l.map (fun x => debt x.1 x.2 c), p.1.1.2 = .tc ∧ k < lv p.1 () := by
  intro p hp
  obtain ⟨x, hx, rfl⟩ := List.mem_map.mp hp
  exact ⟨rfl, by rw [lv_rcv]; exact h x hx⟩

/-- What the three neighbours hand over, by flow. -/
theorem perms : iprop(giveL (F := F) (rgt c) ∗ giveR (F := F) (lft c) ∗ giveC (F := F) (chd c))
    ⊢ (iprop(goF (F := F) c 0 ∗ goF (F := F) c 1 ∗ goF (F := F) c 5 ∗ goF (F := F) c 2
        ∗ goF (F := F) c 3 ∗ goF (F := F) c 6 ∗ goF (F := F) c 4) : sProp 𝕄) := by
  have hg (f : Fin 7) : permAt (F := F) f (peer f c) = goF (F := F) c f := by
    unfold permAt goF; rw [land_peer]
  rw [← hg 0, ← hg 1, ← hg 2, ← hg 3, ← hg 4, ← hg 5, ← hg 6]
  unfold giveL giveR giveC
  rw [odd_lft, odd_rgt]
  have h4 : peer 4 c = if odd c then rgt c else lft c := rfl
  rw [h4]
  cases odd c <;> simp only [Bool.not_false, Bool.not_true, Bool.false_eq_true, if_true, if_false]
  · iintro ⟨⟨H0, H2, -⟩, ⟨H1, H3, H4⟩, ⟨H5, H6⟩⟩
    isplitl [H0]; · iexact H0
    isplitl [H1]; · iexact H1
    isplitl [H5]; · iexact H5
    isplitl [H2]; · iexact H2
    isplitl [H3]; · iexact H3
    isplitl [H6]; · iexact H6
    iexact H4
  · iintro ⟨⟨H0, H2, H4⟩, ⟨H1, H3, -⟩, ⟨H5, H6⟩⟩
    isplitl [H0]; · iexact H0
    isplitl [H1]; · iexact H1
    isplitl [H5]; · iexact H5
    isplitl [H2]; · iexact H2
    isplitl [H3]; · iexact H3
    isplitl [H6]; · iexact H6
    iexact H4

/-- What the device hands its three neighbours, from its slots by flow. -/
theorem give_all : iprop(permAt (F := F) 0 c ∗ permAt (F := F) 1 c ∗ permAt (F := F) 2 c
      ∗ permAt (F := F) 3 c ∗ permAt (F := F) 4 c ∗ permAt (F := F) 5 c ∗ permAt (F := F) 6 c)
    ⊢ (iprop(giveL (F := F) c ∗ giveR (F := F) c ∗ giveC (F := F) c) : sProp 𝕄) := by
  unfold giveL giveR giveC
  cases odd c <;> simp only [Bool.false_eq_true, if_true, if_false]
  · iintro ⟨H0, H1, H2, H3, H4, H5, H6⟩
    isplitl [H0 H2 H4]
    · isplitl [H0]; · iexact H0
      isplitl [H2]; · iexact H2
      iexact H4
    isplitl [H1 H3]
    · isplitl [H1]; · iexact H1
      isplitl [H3]; · iexact H3
      iempintro
    isplitl [H5]; · iexact H5
    iexact H6
  · iintro ⟨H0, H1, H2, H3, H4, H5, H6⟩
    isplitl [H0 H2]
    · isplitl [H0]; · iexact H0
      isplitl [H2]; · iexact H2
      iempintro
    isplitl [H1 H3 H4]
    · isplitl [H1]; · iexact H1
      isplitl [H3]; · iexact H3
      iexact H4
    isplitl [H5]; · iexact H5
    iexact H6

theorem pay0 : (barPay 0 (lft c) : sProp 𝕄) = giveL (F := F) c := by
  show giveL (F := F) (rgt (lft c)) = _
  rw [rgt_lft]
theorem pay1 : (barPay 1 (rgt c) : sProp 𝕄) = giveR (F := F) c := by
  show giveR (F := F) (lft (rgt c)) = _
  rw [lft_rgt]
theorem pay2 : (barPay 2 (chd c) : sProp 𝕄) = giveC (F := F) c := by
  show giveC (F := F) (chd (chd c)) = _
  rw [chd_chd]

/-! ## The stages -/

/-- The barrier and the transfers of the own blocks. -/
theorem run_start (Q : PUnit → sProp 𝕄) :
    iprop(recs A κ ∗ owesL c (owe0 c) ∗ barKit (F := F) c
        ∗ (giveL (F := F) c ∗ giveR (F := F) c ∗ giveC (F := F) c)
        ∗ sendF (F := F) c 0 ∗ sendF (F := F) c 1 ∗ sendF (F := F) c 5
        ∗ srcF A c 0 ∗ srcF A c 1 ∗ srcF A c 5)
      ⊢ iprop((iprop(owesL c (owe2 c) ∗ atPos ER (bar c) (0 + 1) ∅ 0
            ∗ credF (F := F) c 0 ∗ credF (F := F) c 1 ∗ credF (F := F) c 5
            ∗ goF (F := F) c 2 ∗ goF (F := F) c 3 ∗ goF (F := F) c 6 ∗ goF (F := F) c 4) -∗ Q ⟨⟩)
          -∗ wpc c (startC stgs stgs_whole bufs bufs_whole cc0_scratch2 cc0_scratch3 c) Q) := by
  rw [srcF_own A c 0 rfl, srcF_own A c 1 rfl, srcF_own A c 5 rfl]
  unfold startC barKit
  simp only [wp_bind]
  iintro ⟨#HR, HO, ⟨Ht0, Ht1, Ht2, Hcr, Hat⟩, ⟨Hg0, Hg1, Hg2⟩, Hk0, Hk1, Hk5, Hs0, Hs1, Hs5⟩ Hk
  iapply (step_signal A κ c (lft c) 0 _ (dev1_eq c) _ _) $$ [HO Ht0 Hg0]
  · isplitr; · iexact HR
    isplitl [HO]; · iexact HO
    isplitl [Ht0]; · iexact Ht0
    rw [pay0]
    iexact Hg0
  iintro HO
  iapply (step_signal A κ c (rgt c) 1 _ (dev2_eq c) _ _) $$ [HO Ht1 Hg1]
  · isplitr; · iexact HR
    isplitl [HO]; · iexact HO
    isplitl [Ht1]; · iexact Ht1
    rw [pay1]
    iexact Hg1
  iintro HO
  iapply (step_signal A κ c (chd c) 2 _ (dev3_eq c) _ _) $$ [HO Ht2 Hg2]
  · isplitr; · iexact HR
    isplitl [HO]; · iexact HO
    isplitl [Ht2]; · iexact Ht2
    rw [pay2]
    iexact Hg2
  iintro HO
  iapply (step_barrier A κ c (owe1 c) (above c 1 [(0,0), (0,1), (0,5), (1,0), (1,1), (1,5), (0,2),
    (0,3), (0,6), (1,2), (1,3), (1,6), (0,4), (1,4)] (by decide)) _) $$ [HO Hcr Hat]
  · isplitr; · iexact HR
    isplitl [HO]; · iexact HO
    isplitl [Hcr]; · iexact Hcr
    iexact Hat
  iintro ⟨HO, Hat, Hgot⟩
  ihave Hp := (perms c) $$ Hgot
  unfold goF sendF ownF credF
  icases Hp with ⟨⟨Hr00, Hr10, #He00, #He10⟩, ⟨Hr01, Hr11, #He01, #He11⟩,
    ⟨Hr05, Hr15, #He05, #He15⟩, Hg2, Hg3, Hg6, Hg4⟩
  icases Hk0 with ⟨Hk00, Hk10⟩
  icases Hk1 with ⟨Hk01, Hk11⟩
  icases Hk5 with ⟨Hk05, Hk15⟩
  icases Hs0 with ⟨Hs00, Hs10⟩
  icases Hs1 with ⟨Hs01, Hs11⟩
  icases Hs5 with ⟨Hs05, Hs15⟩
  iapply (step_sendOwn A κ c 0 0 rfl rfl _ (dev4_eq c) _ _ (off1_eq c) _ _) $$ [HO Hk00 Hs00 Hr00]
  · iframe HR HO Hk00 Hs00 Hr00 He00
  iintro ⟨HO, Hc00⟩
  iapply (step_sendOwn A κ c 0 1 rfl rfl _ (dev5_eq c) _ _ (off1_eq c) _ _) $$ [HO Hk01 Hs01 Hr01]
  · iframe HR HO Hk01 Hs01 Hr01 He01
  iintro ⟨HO, Hc01⟩
  iapply (step_sendOwn A κ c 0 5 rfl rfl _ (dev6_eq c) _ _ (off1_eq c) _ _) $$ [HO Hk05 Hs05 Hr05]
  · iframe HR HO Hk05 Hs05 Hr05 He05
  iintro ⟨HO, Hc05⟩
  iapply (step_sendOwn A κ c 1 0 rfl rfl _ (dev7_eq c) _ _ (off1_eq c) _ _) $$ [HO Hk10 Hs10 Hr10]
  · iframe HR HO Hk10 Hs10 Hr10 He10
  iintro ⟨HO, Hc10⟩
  iapply (step_sendOwn A κ c 1 1 rfl rfl _ (dev8_eq c) _ _ (off1_eq c) _ _) $$ [HO Hk11 Hs11 Hr11]
  · iframe HR HO Hk11 Hs11 Hr11 He11
  iintro ⟨HO, Hc11⟩
  iapply (step_sendOwn A κ c 1 5 rfl rfl _ (dev9_eq c) _ _ (off1_eq c) _ _) $$ [HO Hk15 Hs15 Hr15]
  · iframe HR HO Hk15 Hs15 Hr15 He15
  iintro ⟨HO, Hc15⟩
  iapply Hk
  iframe

/-- The ring neighbours' blocks at a share: the one passed on along the chord, and the other. -/
theorem swap6 (q : PosShare TreeShare) :
    (iprop(slotF A c (lft c) q ∗ slotF A c (rgt c) q) : sProp 𝕄)
      ⊣⊢ iprop(slotF A c (own 6 c) q ∗ slotF A c (oth6 c) q) := by
  by_cases h : odd c = true
  · rw [(own6_odd c h).1, (own6_odd c h).2]; exact sep_comm
  · rw [(own6_even c (by simpa using h)).1, (own6_even c (by simpa using h)).2]

/-- The blocks two places away at a share: the one passed on, and the other. -/
theorem swap4 (q : PosShare TreeShare) :
    (iprop(slotF A c (lft (lft c)) q ∗ slotF A c (rgt (rgt c)) q) : sProp 𝕄)
      ⊣⊢ iprop(slotF A c (own 4 c) q ∗ slotF A c (oth4 c) q) := by
  by_cases h : odd c = true
  · rw [(own4_odd c h).1, (own4_odd c h).2]
  · rw [(own4_even c (by simpa using h)).1, (own4_even c (by simpa using h)).2]; exact sep_comm

/-- Both slots for a device split into half shares. -/
theorem slotF_halves (o : Dev nD) (q : PosShare TreeShare) :
    (slotF A c o q : sProp 𝕄) ⊣⊢ iprop(slotF A c o q.left ∗ slotF A c o q.right) := by
  unfold slotF slotB
  constructor
  · iintro ⟨H0, H1⟩
    ihave H0 := (owns_halves (c : Thread nD τ) (slotO 0 o) q (A 0 o)).1 $$ H0
    ihave H1 := (owns_halves (c : Thread nD τ) (slotO 1 o) q (A 1 o)).1 $$ H1
    icases H0 with ⟨H0, H0'⟩
    icases H1 with ⟨H1, H1'⟩
    iframe
  · iintro ⟨⟨H0, H1⟩, ⟨H0', H1'⟩⟩
    isplitl [H0 H0']
    · iapply (owns_halves (c : Thread nD τ) (slotO 0 o) q (A 0 o)).2; iframe
    · iapply (owns_halves (c : Thread nD τ) (slotO 1 o) q (A 1 o)).2; iframe

/-- Both own blocks split into half shares. -/
theorem ownF_halves (q : PosShare TreeShare) :
    (ownF A c q : sProp 𝕄) ⊣⊢ iprop(ownF A c q.left ∗ ownF A c q.right) := by
  unfold ownF ownB
  constructor
  · iintro ⟨H0, H1⟩
    ihave H0 := (owns_halves (c : Thread nD τ) (stgs 0) q (A 0 c)).1 $$ H0
    ihave H1 := (owns_halves (c : Thread nD τ) (stgs 1) q (A 1 c)).1 $$ H1
    icases H0 with ⟨H0, H0'⟩
    icases H1 with ⟨H1, H1'⟩
    iframe
  · iintro ⟨⟨H0, H1⟩, ⟨H0', H1'⟩⟩
    isplitl [H0 H0']
    · iapply (owns_halves (c : Thread nD τ) (stgs 0) q (A 0 c)).2; iframe
    · iapply (owns_halves (c : Thread nD τ) (stgs 1) q (A 1 c)).2; iframe

/-- A ring neighbour's block as landed: a half to read, two quarters to lend. -/
theorem slotB_thirds (t : Fin 2) {o' o : Dev nD} (h : o' = o) :
    (slotB A t o' fullShare c : sProp 𝕄)
      ⊢ iprop(slotB A t o fullShare.left c ∗ slotB A t o fullShare.right.left c
          ∗ slotB A t o fullShare.right.right c) := by
  subst h
  unfold slotB
  iintro H
  ihave H := (owns_halves (c : Thread nD τ) (slotO t o') fullShare (A t o')).1 $$ H
  icases H with ⟨H1, H⟩
  ihave H := (owns_halves (c : Thread nD τ) (slotO t o') fullShare.right (A t o')).1 $$ H
  icases H with ⟨H2, H3⟩
  iframe

/-- The same for one array. -/
theorem swap6B (t : Fin 2) (q : PosShare TreeShare) :
    (iprop(slotB A t (lft c) q c ∗ slotB A t (rgt c) q c) : sProp 𝕄)
      ⊢ iprop(slotB A t (own 6 c) q c ∗ slotB A t (oth6 c) q c) := by
  by_cases h : odd c = true
  · rw [(own6_odd c h).1, (own6_odd c h).2]; exact sep_comm.1
  · rw [(own6_even c (by simpa using h)).1, (own6_even c (by simpa using h)).2]

theorem swap4B (t : Fin 2) (q : PosShare TreeShare) :
    (iprop(slotB A t (lft (lft c)) q c ∗ slotB A t (rgt (rgt c)) q c) : sProp 𝕄)
      ⊢ iprop(slotB A t (own 4 c) q c ∗ slotB A t (oth4 c) q c) := by
  by_cases h : odd c = true
  · rw [(own4_odd c h).1, (own4_odd c h).2]
  · rw [(own4_even c (by simpa using h)).1, (own4_even c (by simpa using h)).2]; exact sep_comm.1

/-- The ring neighbours' blocks land and are passed on. -/
theorem run_step1 (Q : PUnit → sProp 𝕄) :
    iprop(recs A κ ∗ owesL c (owe2 c) ∗ recvF (F := F) c 0 ∗ recvF (F := F) c 1
        ∗ sendF (F := F) c 2 ∗ sendF (F := F) c 3 ∗ sendF (F := F) c 6
        ∗ goF (F := F) c 2 ∗ goF (F := F) c 3 ∗ goF (F := F) c 6)
      ⊢ iprop((iprop(owesL c (owe4 c) ∗ atR (F := F) c 1 0 ∗ atR (F := F) c 1 1
            ∗ credF (F := F) c 2 ∗ credF (F := F) c 3 ∗ credF (F := F) c 6
            ∗ slotF A c (lft c) fullShare.left ∗ slotF A c (rgt c) fullShare.left
            ∗ slotF A c (oth6 c) fullShare.right.right) -∗ Q ⟨⟩)
          -∗ wpc c (step1C stgs stgs_whole bufs bufs_whole cc0_scratch2 cc0_scratch3 c) Q) := by
  unfold step1C recvF sendF goF credF atR slotF
  simp only [wp_bind]
  iintro ⟨#HR, HO, ⟨Hw00, Hw10⟩, ⟨Hw01, Hw11⟩, ⟨Hk02, Hk12⟩, ⟨Hk03, Hk13⟩, ⟨Hk06, Hk16⟩,
    ⟨Hr02, Hr12, #He02, #He12⟩, ⟨Hr03, Hr13, #He03, #He13⟩, ⟨Hr06, Hr16, #He06, #He16⟩⟩ Hk
  iapply (step_recvOwn A κ c 0 0 _ _ (owe2 c) (above c 2 [(0,2), (0,3), (0,6), (1,2), (1,3), (1,6),
    (0,4), (1,4)] (by decide)) _) $$ [HO Hw00]
  · iframe HR HO Hw00
  iintro ⟨HO, Ha00, Hs⟩
  ihave Hs := (slotB_thirds A c 0 (land0 c)) $$ Hs
  icases Hs with ⟨Hl0, Hs02, Hx0⟩
  iapply (step_recvOwn A κ c 0 1 _ _ (owe2 c) (above c 2 [(0,2), (0,3), (0,6), (1,2), (1,3), (1,6),
    (0,4), (1,4)] (by decide)) _) $$ [HO Hw01]
  · iframe HR HO Hw01
  iintro ⟨HO, Ha01, Hs⟩
  ihave Hs := (slotB_thirds A c 0 (land1 c)) $$ Hs
  icases Hs with ⟨Hr0, Hs03, Hy0⟩
  ihave Hs := (swap6B A c 0 fullShare.right.right) $$ [Hx0 Hy0]
  · iframe
  icases Hs with ⟨Hs06, Ho0⟩
  iapply (step_sendSlot A κ c 0 2 rfl _ (dev10_eq c) _ _ (off2_eq c) _ _) $$ [HO Hk02 Hs02 Hr02]
  · iframe HR HO Hk02 Hs02 Hr02 He02
  iintro ⟨HO, Hc02⟩
  iapply (step_sendSlot A κ c 0 3 rfl _ (dev11_eq c) _ _ (off3_eq c) _ _) $$ [HO Hk03 Hs03 Hr03]
  · iframe HR HO Hk03 Hs03 Hr03 He03
  iintro ⟨HO, Hc03⟩
  iapply (step_sendSlot A κ c 0 6 rfl _ (dev12_eq c) _ _ (off4_eq c) _ _) $$ [HO Hk06 Hs06 Hr06]
  · iframe HR HO Hk06 Hs06 Hr06 He06
  iintro ⟨HO, Hc06⟩
  iapply (step_recvOwn A κ c 1 0 _ _ (debt 1 2 c :: debt 1 3 c :: debt 1 6 c :: owe4 c)
    (above c 2 [(1,2), (1,3), (1,6), (0,4), (1,4)] (by decide)) _) $$ [HO Hw10]
  · iframe HR HO Hw10
  iintro ⟨HO, Ha10, Hs⟩
  ihave Hs := (slotB_thirds A c 1 (land0 c)) $$ Hs
  icases Hs with ⟨Hl1, Hs12, Hx1⟩
  iapply (step_recvOwn A κ c 1 1 _ _ (debt 1 2 c :: debt 1 3 c :: debt 1 6 c :: owe4 c)
    (above c 2 [(1,2), (1,3), (1,6), (0,4), (1,4)] (by decide)) _) $$ [HO Hw11]
  · iframe HR HO Hw11
  iintro ⟨HO, Ha11, Hs⟩
  ihave Hs := (slotB_thirds A c 1 (land1 c)) $$ Hs
  icases Hs with ⟨Hr1, Hs13, Hy1⟩
  ihave Hs := (swap6B A c 1 fullShare.right.right) $$ [Hx1 Hy1]
  · iframe
  icases Hs with ⟨Hs16, Ho1⟩
  iapply (step_sendSlot A κ c 1 2 rfl _ (dev13_eq c) _ _ (off2_eq c) _ _) $$ [HO Hk12 Hs12 Hr12]
  · iframe HR HO Hk12 Hs12 Hr12 He12
  iintro ⟨HO, Hc12⟩
  iapply (step_sendSlot A κ c 1 3 rfl _ (dev14_eq c) _ _ (off3_eq c) _ _) $$ [HO Hk13 Hs13 Hr13]
  · iframe HR HO Hk13 Hs13 Hr13 He13
  iintro ⟨HO, Hc13⟩
  iapply (step_sendSlot A κ c 1 6 rfl _ (dev15_eq c) _ _ (off4_eq c) _ _) $$ [HO Hk16 Hs16 Hr16]
  · iframe HR HO Hk16 Hs16 Hr16 He16
  iintro ⟨HO, Hc16⟩
  iapply Hk
  iframe

/-- A landed block as two halves. -/
theorem slotB_halves (t : Fin 2) {o' o : Dev nD} (h : o' = o) :
    (slotB A t o' fullShare c : sProp 𝕄)
      ⊢ iprop(slotB A t o fullShare.left c ∗ slotB A t o fullShare.right c) :=
  h ▸   (owns_halves (c : Thread nD τ) (slotO t o) fullShare (A t o)).1

/-- The blocks two places away land, and one of them is passed on. -/
theorem run_step2 (Q : PUnit → sProp 𝕄) :
    iprop(recs A κ ∗ owesL c (owe4 c) ∗ recvF (F := F) c 2 ∗ recvF (F := F) c 3
        ∗ sendF (F := F) c 4 ∗ goF (F := F) c 4)
      ⊢ iprop((iprop(owesL c [] ∗ atR (F := F) c 1 2 ∗ atR (F := F) c 1 3 ∗ credF (F := F) c 4
            ∗ slotF A c (lft (lft c)) fullShare.left ∗ slotF A c (rgt (rgt c)) fullShare.left
            ∗ slotF A c (oth4 c) fullShare.right) -∗ Q ⟨⟩)
          -∗ wpc c (step2C bufs bufs_whole cc0_scratch2 cc0_scratch3 c) Q) := by
  unfold step2C recvF sendF goF credF atR slotF
  simp only [wp_bind]
  iintro ⟨#HR, HO, ⟨Hw02, Hw12⟩, ⟨Hw03, Hw13⟩, ⟨Hk04, Hk14⟩, ⟨Hr04, Hr14, #He04, #He14⟩⟩ Hk
  iapply (step_recvSlot A κ c 0 2 _ _ (owe4 c) (above c 3 [(0,4), (1,4)] (by decide)) _)
    $$ [HO Hw02]
  · iframe HR HO Hw02
  iintro ⟨HO, Ha02, Hs⟩
  ihave Hs := (slotB_halves A c 0 (land2 c)) $$ Hs
  icases Hs with ⟨Hl0, Hx0⟩
  iapply (step_recvSlot A κ c 0 3 _ _ (owe4 c) (above c 3 [(0,4), (1,4)] (by decide)) _)
    $$ [HO Hw03]
  · iframe HR HO Hw03
  iintro ⟨HO, Ha03, Hs⟩
  ihave Hs := (slotB_halves A c 0 (land3 c)) $$ Hs
  icases Hs with ⟨Hr0, Hy0⟩
  ihave Hs := (swap4B A c 0 fullShare.right) $$ [Hx0 Hy0]
  · iframe
  icases Hs with ⟨Hs04, Ho0⟩
  iapply (step_sendSlot A κ c 0 4 rfl _ (dev16_eq c) _ _ (off11_eq c) _ _) $$ [HO Hk04 Hs04 Hr04]
  · iframe HR HO Hk04 Hs04 Hr04 He04
  iintro ⟨HO, Hc04⟩
  iapply (step_recvSlot A κ c 1 2 _ _ [debt 1 4 c] (above c 3 [(1,4)] (by decide)) _)
    $$ [HO Hw12]
  · iframe HR HO Hw12
  iintro ⟨HO, Ha12, Hs⟩
  ihave Hs := (slotB_halves A c 1 (land2 c)) $$ Hs
  icases Hs with ⟨Hl1, Hx1⟩
  iapply (step_recvSlot A κ c 1 3 _ _ [debt 1 4 c] (above c 3 [(1,4)] (by decide)) _)
    $$ [HO Hw13]
  · iframe HR HO Hw13
  iintro ⟨HO, Ha13, Hs⟩
  ihave Hs := (slotB_halves A c 1 (land3 c)) $$ Hs
  icases Hs with ⟨Hr1, Hy1⟩
  ihave Hs := (swap4B A c 1 fullShare.right) $$ [Hx1 Hy1]
  · iframe
  icases Hs with ⟨Hs14, Ho1⟩
  iapply (step_sendSlot A κ c 1 4 rfl _ (dev17_eq c) _ _ (off11_eq c) _ _) $$ [HO Hk14 Hs14 Hr14]
  · iframe HR HO Hk14 Hs14 Hr14 He14
  iintro ⟨HO, Hc14⟩
  iapply Hk
  iframe

/-- What the final waits on flow `f` take. -/
def sentF (f : Fin 7) : sProp 𝕄 := iprop(sentKit (F := F) c 0 f ∗ sentKit (F := F) c 1 f)

/-- Every transfer the device started has read its source. -/
theorem run_end (Q : PUnit → sProp 𝕄) :
    iprop(recs A κ ∗ owesL c [] ∗ sentF (F := F) c 0 ∗ sentF (F := F) c 1 ∗ sentF (F := F) c 2
        ∗ sentF (F := F) c 3 ∗ sentF (F := F) c 4 ∗ sentF (F := F) c 5 ∗ sentF (F := F) c 6)
      ⊢ iprop((iprop(owesL c [] ∗ atS (F := F) c 1 0 ∗ atS (F := F) c 1 1 ∗ atS (F := F) c 1 2
            ∗ atS (F := F) c 1 3 ∗ atS (F := F) c 1 4 ∗ atS (F := F) c 1 5 ∗ atS (F := F) c 1 6
            ∗ srcF A c 0 ∗ srcF A c 1 ∗ srcF A c 2 ∗ srcF A c 3 ∗ srcF A c 4 ∗ srcF A c 5
            ∗ srcF A c 6) -∗ Q ⟨⟩)
          -∗ wpc c (endC stgs stgs_whole bufs bufs_whole cc0_scratch2 c) Q) := by
  unfold endC sentF atS srcF
  simp only [wp_bind]
  iintro ⟨#HR, HO, ⟨Hk00, Hk10⟩, ⟨Hk01, Hk11⟩, ⟨Hk02, Hk12⟩, ⟨Hk03, Hk13⟩, ⟨Hk04, Hk14⟩,
    ⟨Hk05, Hk15⟩, ⟨Hk06, Hk16⟩⟩ Hk
  iapply (step_sentOwn A κ c 0 0 _ _ _) $$ [HO Hk00]
  · iframe HR HO Hk00
  iintro ⟨HO, Ha00, Hs00⟩
  iapply (step_sentOwn A κ c 0 1 _ _ _) $$ [HO Hk01]
  · iframe HR HO Hk01
  iintro ⟨HO, Ha01, Hs01⟩
  iapply (step_sentOwn A κ c 0 5 _ _ _) $$ [HO Hk05]
  · iframe HR HO Hk05
  iintro ⟨HO, Ha05, Hs05⟩
  iapply (step_sentOwn A κ c 1 0 _ _ _) $$ [HO Hk10]
  · iframe HR HO Hk10
  iintro ⟨HO, Ha10, Hs10⟩
  iapply (step_sentOwn A κ c 1 1 _ _ _) $$ [HO Hk11]
  · iframe HR HO Hk11
  iintro ⟨HO, Ha11, Hs11⟩
  iapply (step_sentOwn A κ c 1 5 _ _ _) $$ [HO Hk15]
  · iframe HR HO Hk15
  iintro ⟨HO, Ha15, Hs15⟩
  iapply (step_sentSlot A κ c 0 2 _ _ _) $$ [HO Hk02]
  · iframe HR HO Hk02
  iintro ⟨HO, Ha02, Hs02⟩
  iapply (step_sentSlot A κ c 0 3 _ _ _) $$ [HO Hk03]
  · iframe HR HO Hk03
  iintro ⟨HO, Ha03, Hs03⟩
  iapply (step_sentSlot A κ c 0 6 _ _ _) $$ [HO Hk06]
  · iframe HR HO Hk06
  iintro ⟨HO, Ha06, Hs06⟩
  iapply (step_sentSlot A κ c 1 2 _ _ _) $$ [HO Hk12]
  · iframe HR HO Hk12
  iintro ⟨HO, Ha12, Hs12⟩
  iapply (step_sentSlot A κ c 1 3 _ _ _) $$ [HO Hk13]
  · iframe HR HO Hk13
  iintro ⟨HO, Ha13, Hs13⟩
  iapply (step_sentSlot A κ c 1 6 _ _ _) $$ [HO Hk16]
  · iframe HR HO Hk16
  iintro ⟨HO, Ha16, Hs16⟩
  iapply (step_sentSlot A κ c 0 4 _ _ _) $$ [HO Hk04]
  · iframe HR HO Hk04
  iintro ⟨HO, Ha04, Hs04⟩
  iapply (step_sentSlot A κ c 1 4 _ _ _) $$ [HO Hk14]
  · iframe HR HO Hk14
  iintro ⟨HO, Ha14, Hs14⟩
  iapply Hk
  iframe

end Bsa

end
-- ==== Proof.Bsa.Run.lean ====
/- The whole body at a symbolic device `c`: from the tickets, the device's slots and the staged operands
   to the output rows of the running softmax over all eight blocks, everything lent returned. -/
module

public import proofs.«01_k».proof.Proof.Bsa.Stages

@[expose] public section

noncomputable section

namespace Bsa

open Idealize.SL Idealize.SL.RA Idealize.SL.BI Idealize.SL.BI.Laws Idealize.SL.ProofMode Idealize.SL.Sem
open scoped Idealize.SL.BI
open Idealize.SL.BI.BIBase
open Idealize.ShloMosaic Idealize.ShloMosaic.TcCoe
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (A : Fin 2 → Dev nD → Vec F S2x256x256 .bf16) (κ : GSem nD τ sig → ℕ) (c : Dev nD)

/-! ## What the body computes -/

/-- The running softmax of device `my` over the blocks of a list of devices. -/
def runSt (my : Dev nD) (q : FVec F S512x256 .f32) (l : List (Dev nD)) : St F :=
  l.foldl (fun st o => chunkStep (devW my) (devW o) q (entry (A 0 o)) (entry (A 1 o)) st) st0

/-- The output block of device `c`. -/
def outBlk (x : Vec F S2x256x512 .f32) (wq : Vec F S512x256 .f32) (wo : Vec F S256x512 .f32) :
    Vec F S2x256x512 .f32 :=
  outArr (runSt A c (queries x wq) (List.ofFn (order c))) wo

theorem order_list : List.ofFn (order c)
    = [c, lft c, rgt c, chd c, lft (lft c), rgt (rgt c), land 6 c, land 4 c] := by
  revert c; decide

/-! ## Lending and returning -/

theorem own_lend : (ownF A c fullShare : sProp 𝕄)
    ⊣⊢ iprop(ownF A c fullShare.left ∗ srcF A c 0 ∗ srcF A c 1 ∗ srcF A c 5) := by
  rw [srcF_own A c 0 rfl, srcF_own A c 1 rfl, srcF_own A c 5 rfl]
  refine (ownF_halves A c fullShare).trans (sep_congr .rfl
    ((ownF_halves A c fullShare.right).trans (sep_congr .rfl (ownF_halves A c fullShare.right.right))))

/-- A ring neighbour's block back in one piece. -/
theorem slots_back1 : iprop(slotF A c (lft c) fullShare.left ∗ slotF A c (rgt c) fullShare.left
      ∗ slotF A c (oth6 c) fullShare.right.right ∗ srcF A c 2 ∗ srcF A c 3 ∗ srcF A c 6)
    ⊢ (iprop(slotF A c (lft c) fullShare ∗ slotF A c (rgt c) fullShare) : sProp 𝕄) := by
  rw [srcF_slot A c 2 rfl, srcF_slot A c 3 rfl, srcF_slot A c 6 rfl]
  show iprop(slotF A c (lft c) fullShare.left ∗ slotF A c (rgt c) fullShare.left
      ∗ slotF A c (oth6 c) fullShare.right.right ∗ slotF A c (lft c) fullShare.right.left
      ∗ slotF A c (rgt c) fullShare.right.left ∗ slotF A c (own 6 c) fullShare.right.right) ⊢ _
  iintro ⟨Hl, Hr, Ho, Hl1, Hr1, H6⟩
  ihave H := (swap6 A c fullShare.right.right).2 $$ [H6 Ho]
  · iframe
  icases H with ⟨Hl2, Hr2⟩
  isplitl [Hl Hl1 Hl2]
  · iapply (slotF_halves A c (lft c) fullShare).2
    isplitl [Hl]; · iexact Hl
    iapply (slotF_halves A c (lft c) fullShare.right).2
    iframe
  · iapply (slotF_halves A c (rgt c) fullShare).2
    isplitl [Hr]; · iexact Hr
    iapply (slotF_halves A c (rgt c) fullShare.right).2
    iframe

/-- The blocks two places away back in one piece. -/
theorem slots_back2 : iprop(slotF A c (lft (lft c)) fullShare.left
      ∗ slotF A c (rgt (rgt c)) fullShare.left ∗ slotF A c (oth4 c) fullShare.right ∗ srcF A c 4)
    ⊢ (iprop(slotF A c (lft (lft c)) fullShare ∗ slotF A c (rgt (rgt c)) fullShare) : sProp 𝕄) := by
  rw [srcF_slot A c 4 rfl]
  show iprop(slotF A c (lft (lft c)) fullShare.left ∗ slotF A c (rgt (rgt c)) fullShare.left
      ∗ slotF A c (oth4 c) fullShare.right ∗ slotF A c (own 4 c) fullShare.right) ⊢ _
  iintro ⟨Hl, Hr, Ho, H4⟩
  ihave H := (swap4 A c fullShare.right).2 $$ [H4 Ho]
  · iframe
  icases H with ⟨Hl2, Hr2⟩
  isplitl [Hl Hl2]
  · iapply (slotF_halves A c (lft (lft c)) fullShare).2
    iframe
  · iapply (slotF_halves A c (rgt (rgt c)) fullShare).2
    iframe

/-- A chunk read from both slots of device `o`'s blocks. -/
theorem step_chunkF (o : Dev nD) (sh : PosShare TreeShare) (w : BitVec 32) (hw : w = devW o)
    (q : FVec F S512x256 .f32) (st : St F) (off off' : Fin 4 → Nat)
    (h : ∀ a, off a + S1x1x256x256.size a ≤ S8x2x256x256.size a)
    (h' : ∀ a, off' a + S1x1x256x256.size a ≤ S8x2x256x256.size a)
    (hoff : off = offO o 0) (hoff' : off' = offO o 1) (Q : St F → sProp 𝕄) :
    slotF A c o sh
      ⊢ iprop((slotF A c o sh
            -∗ Q (chunkStep (devW c) (devW o) q (entry (A 0 o)) (entry (A 1 o)) st))
          -∗ wpc c (chunkC bufs c w q st off off' h h') Q) :=
  step_chunk A c o sh sh w hw q st off off' h h' hoff hoff' Q

theorem step_chunkOwnF (sh : PosShare TreeShare) (q : FVec F S512x256 .f32)
    (Q : St F → sProp 𝕄) :
    ownF A c sh
      ⊢ iprop((ownF A c sh
            -∗ Q (chunkStep (devW c) (devW c) q (entry (A 0 c)) (entry (A 1 c)) st0))
          -∗ wpc c (chunkOwnC stgs c q) Q) :=
  step_chunkOwn A c sh sh q Q

/-! ## The body -/

/-- The flows' tickets of device `c`. -/
def flowKit (f : Fin 7) : sProp 𝕄 :=
  iprop(sendF (F := F) c f ∗ recvF (F := F) c f ∗ atS (F := F) c 0 f)

/-- What the flow's cells end with. -/
def flowDone (f : Fin 7) : sProp 𝕄 := iprop(atS (F := F) c 1 f ∗ atR (F := F) c 1 f)

variable (ax : Memref sig .tc .vmem S2x256x512 .f32) (awq : Memref sig .tc .vmem S512x256 .f32)
  (awo : Memref sig .tc .vmem S256x512 .f32) (aout : Memref sig .tc .vmem S2x256x512 .f32)

theorem sent_intro (f : Fin 7) :
    iprop(credF (F := F) c f ∗ atS (F := F) c 0 f) ⊢ (sentF (F := F) c f : sProp 𝕄) := by
  unfold credF atS sentF sentKit
  iintro ⟨⟨H0, H1⟩, ⟨H2, H3⟩⟩
  iframe

theorem run_body (x : Vec F S2x256x512 .f32) (wq : Vec F S512x256 .f32) (wo : Vec F S256x512 .f32)
    (X : Vec F S2x256x512 .f32) (Q : PUnit → sProp 𝕄) :
    iprop(recs A κ ∗ owesL c (owe0 c) ∗ barKit (F := F) c
        ∗ (giveL (F := F) c ∗ giveR (F := F) c ∗ giveC (F := F) c)
        ∗ (flowKit (F := F) c 0 ∗ flowKit (F := F) c 1 ∗ flowKit (F := F) c 2 ∗ flowKit (F := F) c 3
          ∗ flowKit (F := F) c 4 ∗ flowKit (F := F) c 5 ∗ flowKit (F := F) c 6)
        ∗ ownF A c fullShare
        ∗ owns (c : Thread nD τ) ax fullShare x ∗ owns (c : Thread nD τ) awq fullShare wq
        ∗ owns (c : Thread nD τ) awo fullShare wo ∗ owns (c : Thread nD τ) aout fullShare X)
      ⊢ iprop((iprop(owesL c [] ∗ atPos ER (bar c) (0 + 1) ∅ 0
            ∗ (flowDone (F := F) c 0 ∗ flowDone (F := F) c 1 ∗ flowDone (F := F) c 2
              ∗ flowDone (F := F) c 3 ∗ flowDone (F := F) c 4 ∗ flowDone (F := F) c 5
              ∗ flowDone (F := F) c 6)
            ∗ (slotF A c (lft c) fullShare ∗ slotF A c (rgt c) fullShare
              ∗ slotF A c (chd c) fullShare ∗ slotF A c (lft (lft c)) fullShare
              ∗ slotF A c (rgt (rgt c)) fullShare ∗ slotF A c (land 6 c) fullShare
              ∗ slotF A c (land 4 c) fullShare)
            ∗ ownF A c fullShare
            ∗ owns (c : Thread nD τ) ax fullShare x ∗ owns (c : Thread nD τ) awq fullShare wq
            ∗ owns (c : Thread nD τ) awo fullShare wo
            ∗ owns (c : Thread nD τ) aout fullShare (outBlk A c x wq wo)) -∗ Q ⟨⟩)
          -∗ wpc c (bodyAt stgs stgs_whole bufs bufs_whole cc0_scratch2 cc0_scratch3 ax awq awo aout c)
            Q) := by
  rw [show outBlk A c x wq wo = _ from (put_put _ wo X).symm, order_list]
  unfold bodyAt flowKit flowDone
  simp only [wp_bind]
  iintro ⟨#HR, HO, Hbk, Hgv, ⟨⟨Hk0, Hw0, Ha0⟩, ⟨Hk1, Hw1, Ha1⟩, ⟨Hk2, Hw2, Ha2⟩, ⟨Hk3, Hw3, Ha3⟩,
    ⟨Hk4, Hw4, Ha4⟩, ⟨Hk5, Hw5, Ha5⟩, ⟨Hk6, Hw6, Ha6⟩⟩, Hown, Hx, Hwq, Hwo, Hout⟩ Hk
  ihave Hown := (own_lend A c).1 $$ Hown
  icases Hown with ⟨Hown, Hs0, Hs1, Hs5⟩
  iapply (run_start A κ c _) $$ [HO Hbk Hgv Hk0 Hk1 Hk5 Hs0 Hs1 Hs5]
  · iframe HR HO Hbk Hgv Hk0 Hk1 Hk5 Hs0 Hs1 Hs5
  iintro ⟨HO, Hbar, Hc0, Hc1, Hc5, Hg2, Hg3, Hg6, Hg4⟩
  iapply (step_queries c ax awq x wq _) $$ [Hx Hwq]
  · iframe
  iintro ⟨Hx, Hwq⟩
  iapply (step_chunkOwnF A c fullShare.left (queries x wq) _) $$ Hown
  iintro Hown
  iapply (run_step1 A κ c _) $$ [HO Hw0 Hw1 Hk2 Hk3 Hk6 Hg2 Hg3 Hg6]
  · iframe HR HO Hw0 Hw1 Hk2 Hk3 Hk6 Hg2 Hg3 Hg6
  iintro ⟨HO, Hd0, Hd1, Hc2, Hc3, Hc6, Hl, Hr, Ho6⟩
  iapply (step_chunkF A c (lft c) fullShare.left _ (ring_m1 c) _ _ _ _ _ _ (off5_1_eq c)
    (off6_1_eq c) _) $$ Hl
  iintro Hl
  iapply (step_chunkF A c (rgt c) fullShare.left _ (ring_p1 c) _ _ _ _ _ _ (off7_1_eq c)
    (off8_1_eq c) _) $$ Hr
  iintro Hr
  unfold recvF
  icases Hw5 with ⟨Hw05, Hw15⟩
  icases Hw6 with ⟨Hw06, Hw16⟩
  icases Hw4 with ⟨Hw04, Hw14⟩
  iapply (step_recvOwn A κ c 0 5 _ _ (owe4 c) (above c 2 [(0,4), (1,4)] (by decide)) _)
    $$ [HO Hw05]
  · iframe HR HO Hw05
  iintro ⟨HO, Hd05, Hq0⟩
  iapply (step_recvOwn A κ c 1 5 _ _ (owe4 c) (above c 2 [(0,4), (1,4)] (by decide)) _)
    $$ [HO Hw15]
  · iframe HR HO Hw15
  iintro ⟨HO, Hd15, Hq1⟩
  ihave Hq := (show iprop(slotB A 0 (land 5 c) fullShare c ∗ slotB A 1 (land 5 c) fullShare c)
    ⊢ (slotF A c (chd c) fullShare : sProp 𝕄) by rw [land5]; exact .rfl) $$ [Hq0 Hq1]
  · iframe
  iapply (step_chunkF A c (chd c) fullShare _ (chordW_eq c) _ _ _ _ _ _ (off9_eq c)
    (off10_eq c) _) $$ Hq
  iintro Hq
  iapply (run_step2 A κ c _) $$ [HO Hw2 Hw3 Hk4 Hg4]
  · unfold recvF; iframe HR HO Hw2 Hw3 Hk4 Hg4
  iintro ⟨HO, Hd2, Hd3, Hc4, Hl2, Hr2, Ho4⟩
  iapply (step_chunkF A c (lft (lft c)) fullShare.left _ (ring_m2 c) _ _ _ _ _ _ (off5_2_eq c)
    (off6_2_eq c) _) $$ Hl2
  iintro Hl2
  iapply (step_chunkF A c (rgt (rgt c)) fullShare.left _ (ring_p2 c) _ _ _ _ _ _ (off7_2_eq c)
    (off8_2_eq c) _) $$ Hr2
  iintro Hr2
  iapply (step_recvSlot A κ c 0 6 _ _ [] (above c 3 [] (by decide)) _) $$ [HO Hw06]
  · iframe HR HO Hw06
  iintro ⟨HO, Hd06, H60⟩
  iapply (step_recvSlot A κ c 1 6 _ _ [] (above c 3 [] (by decide)) _) $$ [HO Hw16]
  · iframe HR HO Hw16
  iintro ⟨HO, Hd16, H61⟩
  iapply (step_chunk A c (land 6 c) fullShare fullShare _ (ring_p4 c) _ _ _ _ _ _ (off7_4_eq c)
    (off8_4_eq c) _) $$ [H60 H61]
  · iframe
  iintro H6
  iapply (step_recvSlot A κ c 0 4 _ _ [] (above c 4 [] (by decide)) _) $$ [HO Hw04]
  · iframe HR HO Hw04
  iintro ⟨HO, Hd04, H40⟩
  iapply (step_recvSlot A κ c 1 4 _ _ [] (above c 4 [] (by decide)) _) $$ [HO Hw14]
  · iframe HR HO Hw14
  iintro ⟨HO, Hd14, H41⟩
  iapply (step_chunk A c (land 4 c) fullShare fullShare _ (lastW_eq c) _ _ _ _ _ _ (off12_eq c)
    (off13_eq c) _) $$ [H40 H41]
  · iframe
  iintro H4
  iapply (step_out c awo aout 0 _ wo X ![0, 0, 0] rfl _ _) $$ [Hwo Hout]
  · iframe
  iintro ⟨Hwo, Hout⟩
  iapply (step_out c awo aout 1 _ wo _ ![1, 0, 0] rfl _ _) $$ [Hwo Hout]
  · iframe
  iintro ⟨Hwo, Hout⟩
  ihave Hc0 := (sent_intro c 0) $$ [Hc0 Ha0]
  · iframe
  ihave Hc1 := (sent_intro c 1) $$ [Hc1 Ha1]
  · iframe
  ihave Hc2 := (sent_intro c 2) $$ [Hc2 Ha2]
  · iframe
  ihave Hc3 := (sent_intro c 3) $$ [Hc3 Ha3]
  · iframe
  ihave Hc4 := (sent_intro c 4) $$ [Hc4 Ha4]
  · iframe
  ihave Hc5 := (sent_intro c 5) $$ [Hc5 Ha5]
  · iframe
  ihave Hc6 := (sent_intro c 6) $$ [Hc6 Ha6]
  · iframe
  iapply (run_end A κ c _) $$ [HO Hc0 Hc1 Hc2 Hc3 Hc4 Hc5 Hc6]
  · iframe HR HO Hc0 Hc1 Hc2 Hc3 Hc4 Hc5 Hc6
  iintro ⟨HO, Ha0, Ha1, Ha2, Ha3, Ha4, Ha5, Ha6, Hs0, Hs1, Hs2, Hs3, Hs4, Hs5, Hs6⟩
  ihave Hown := (own_lend A c).2 $$ [Hown Hs0 Hs1 Hs5]
  · iframe
  ihave Hb := (slots_back1 A c) $$ [Hl Hr Ho6 Hs2 Hs3 Hs6]
  · iframe
  icases Hb with ⟨Hl, Hr⟩
  ihave Hb := (slots_back2 A c) $$ [Hl2 Hr2 Ho4 Hs4]
  · iframe
  icases Hb with ⟨Hl2, Hr2⟩
  iapply Hk
  unfold atR
  iframe HO Hbar Hown Hx Hwq Hwo Hout
  iframe
  unfold slotF
  iframe

end Bsa

end
-- ==== Proof.Bsa.Slots.lean ====
/- A gathering array as its eight slots: the array, whatever it holds, splits into one slot per device, and
   the slots, each holding its device's block, are the array again. -/
module

public import proofs.«01_k».proof.Proof.Bsa.Run

@[expose] public section

noncomputable section

namespace Bsa

open Idealize.SL Idealize.SL.RA Idealize.SL.BI Idealize.SL.BI.Laws Idealize.SL.ProofMode Idealize.SL.Sem
open scoped Idealize.SL.BI
open Idealize.SL.BI.BIBase
open Idealize.ShloMosaic Idealize.ShloMosaic.TcCoe
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (c : Dev nD) (t : Fin 2)

/-- The rectangle of device `o`'s slot in a gathering array. -/
abbrev rectO (o : Dev nD) : Rect S8x2x256x256 :=
  Rect.unit (s := S8x2x256x256) (offO o 0) S1x2x256x256.size (okO o).inb

theorem rectO_disj (o o' : Dev nD) (h : o ≠ o') : Disjoint (rectO o).set (rectO o').set := by
  refine Rect.unit_disjoint (s := S8x2x256x256) (0 : Fin 4) ?_
  have : o.val ≠ o'.val := fun e => h (Fin.ext e)
  show o.val + 1 ≤ o'.val ∨ o'.val + 1 ≤ o.val
  omega

theorem rectO_cover :
    (Finset.univ : Finset (Dev nD)).biUnion (fun o => (rectO o).set) = Finset.univ := by
  refine Finset.eq_univ_of_forall fun i => Finset.mem_biUnion.mpr
    ⟨(⟨(i 0).val, (i 0).isLt⟩ : Fin 8), Finset.mem_univ _, ?_⟩
  rw [Rect.mem_set_unit]
  intro a
  have := (i a).isLt
  fin_cases a
  · exact ⟨le_refl _, Nat.lt_succ_self _⟩
  · exact ⟨Nat.zero_le _, by simpa [offO] using this⟩
  · exact ⟨Nat.zero_le _, by simpa [offO] using this⟩
  · exact ⟨Nat.zero_le _, by simpa [offO] using this⟩

theorem slot_set (o : Dev nD) : (slotO t o).view.set
    = ((bufs t).slice (rectO o) (fun _ => rfl)).view.set :=
  Memref.set_view_squeeze _ squeezes_S1x2x256x256_S2x256x256

/-- A slot reads what its rectangle of the array does. -/
theorem slot_read (o : Dev nD) (f : (bufs t).view.ty.Contents (Elt F)) (j : S2x256x256.Idx) :
    (slotO t o).view.read (Elt F) f j
      = (bufs t).view.read (Elt F) f ((rectO o).emb (Fin.cons ⟨0, Nat.one_pos⟩ j)) := by
  have e := Memref.read_squeeze_slice (Val := Elt F) (bufs t) (rectO o) (fun _ => rfl)
    squeezes_S1x2x256x256_S2x256x256 (by decide : S1x2x256x256.ShapeCasts S2x256x256) f
  rw [show (slotO t o).view.read (Elt F) f = _ from e]
  exact shapeCast_dropUnit_apply ![2, 256, 256] _ _ _

/-- Where an index of an array lies within its slot. -/
def inSlot (i : S8x2x256x256.Idx) : S2x256x256.Idx := fun a => i a.succ
def slotOf (i : S8x2x256x256.Idx) : Dev nD := (⟨(i 0).val, (i 0).isLt⟩ : Fin 8)

theorem rectO_slotOf (o : Dev nD) (j : (rectO o).shape.Idx) : slotOf ((rectO o).emb j) = o := by
  refine Fin.ext ?_
  show o.val + 1 * (j 0).val = o.val
  have : (j 0).val < 1 := (j 0).isLt
  omega

theorem rectO_inSlot (o : Dev nD) (j : S2x256x256.Idx) :
    inSlot ((rectO o).emb (Fin.cons ⟨0, Nat.one_pos⟩ j)) = j := by
  funext a
  refine Fin.ext ?_
  fin_cases a
  · show 0 + 1 * (j 0).val = _; simp
  · show 0 + 1 * (j 1).val = _; simp
  · show 0 + 1 * (j 2).val = _; simp

theorem cons_of (o : Dev nD) (j : (rectO o).shape.Idx) :
    ∃ i : S2x256x256.Idx, j = Fin.cons ⟨0, Nat.one_pos⟩ i := by
  refine ⟨fun a => j a.succ, funext fun a => ?_⟩
  refine Fin.cases ?_ (fun a => rfl) a
  refine Fin.ext ?_
  have : (j 0).val < 1 := (j 0).isLt
  show (j 0).val = 0
  omega

theorem slice_room (o : Dev nD) (X : Vec F S8x2x256x256 .bf16) :
    (owns (c : Thread nD τ) ((bufs t).slice (rectO o) (fun _ => rfl)) fullShare
        (fun j => X ((rectO o).emb j)) : sProp 𝕄) ⊢ room (F := F) t o c := by
  unfold room owns
  iintro ⟨%f, %hf, H⟩
  iexists (fun j => X ((rectO o).emb (Fin.cons ⟨0, Nat.one_pos⟩ j)))
  iexists f
  isplitr
  · ipureintro
    funext j
    rw [slot_read]
    exact congrFun hf _
  rw [slot_set]
  iexact H

theorem slot_slice (o : Dev nD) (Y : Dev nD → Vec F S2x256x256 .bf16) :
    (owns (c : Thread nD τ) (slotO t o) fullShare (Y o) : sProp 𝕄)
      ⊢ owns (c : Thread nD τ) ((bufs t).slice (rectO o) (fun _ => rfl)) fullShare
        (fun j => Y (slotOf ((rectO o).emb j)) (inSlot ((rectO o).emb j))) := by
  unfold owns
  iintro ⟨%f, %hf, H⟩
  iexists f
  isplitr
  · ipureintro
    funext j
    obtain ⟨i, rfl⟩ := cons_of o j
    rw [rectO_slotOf, rectO_inSlot, ← hf, slot_read]
    rfl
  rw [slot_set]
  iexact H

/-- An array is its slots: out of the array, each slot at whatever it holds. -/
theorem rooms_split (X : Vec F S8x2x256x256 .bf16) :
    (owns (c : Thread nD τ) (bufs t) fullShare X : sProp 𝕄)
      ⊢ bigSep Finset.univ fun o : Dev nD => room (F := F) t o c :=
  (owns_rects (c : Thread nD τ) (bufs t) fullShare rectO (fun _ _ => rfl) rectO_disj
    rectO_cover X).trans (bigSep_mono fun o _ => slice_room c t o X)

/-- And back: slots holding `Y` make up an array. -/
theorem rooms_join (Y : Dev nD → Vec F S2x256x256 .bf16) :
    (bigSep Finset.univ fun o : Dev nD =>
        (owns (c : Thread nD τ) (slotO t o) fullShare (Y o) : sProp 𝕄))
      ⊢ owns (c : Thread nD τ) (bufs t) fullShare (fun i => Y (slotOf i) (inSlot i)) :=
  .trans (bigSep_mono fun o _ => slot_slice c t o Y)
    (owns_of_rects (c : Thread nD τ) (bufs t) fullShare rectO
      (fun _ _ => rfl) rectO_disj rectO_cover (fun i => Y (slotOf i) (inSlot i)))

/-- A separating conjunction over the devices, in the order in which device `c` takes their blocks. -/
theorem bigSep_order (Φ : Dev nD → sProp 𝕄) : bigSep Finset.univ Φ
    = iprop(Φ c ∗ Φ (land 0 c) ∗ Φ (land 1 c) ∗ Φ (land 5 c) ∗ Φ (land 2 c) ∗ Φ (land 3 c)
        ∗ Φ (land 6 c) ∗ Φ (land 4 c)) := by
  rw [bigSep_univ_equiv (orderE c) Φ,
    bigSep_univ_eq_bigSepL [(0 : Fin 8), 1, 2, 3, 4, 5, 6, 7] (by decide) (by decide)]
  rfl

/-- The gathering array `t`, whatever it holds. -/
def scratch : sProp 𝕄 := iprop(∃ X, owns (c : Thread nD τ) (bufs t) fullShare X)

/-- The own slot is kept; the other seven are the landing places of the seven flows. -/
theorem scratch_rooms : (scratch (F := F) c t : sProp 𝕄)
    ⊢ iprop(room (F := F) t c c ∗ room (F := F) t (land 0 c) c ∗ room (F := F) t (land 1 c) c
        ∗ room (F := F) t (land 5 c) c ∗ room (F := F) t (land 2 c) c ∗ room (F := F) t (land 3 c) c
        ∗ room (F := F) t (land 6 c) c ∗ room (F := F) t (land 4 c) c) := by
  unfold scratch
  iintro ⟨%X, H⟩
  iapply ((rooms_split c t X).trans (Entails.of_eq (bigSep_order c fun o => room (F := F) t o c)))
  iexact H

variable (A : Fin 2 → Dev nD → Vec F S2x256x256 .bf16)

/-- Once every block has landed the slots are an array again. -/
theorem scratch_back : iprop(room (F := F) t c c ∗ slotB A t (lft c) fullShare c
      ∗ slotB A t (rgt c) fullShare c ∗ slotB A t (chd c) fullShare c
      ∗ slotB A t (lft (lft c)) fullShare c ∗ slotB A t (rgt (rgt c)) fullShare c
      ∗ slotB A t (land 6 c) fullShare c ∗ slotB A t (land 4 c) fullShare c)
    ⊢ (scratch (F := F) c t : sProp 𝕄) := by
  have hne (f : Fin 7) : land f c ≠ c := by revert f c; decide
  rw [← land2, ← land3, ← land0, ← land1, ← land5]
  unfold scratch room slotB
  iintro ⟨⟨%X, H⟩, H0, H1, H5, H2, H3, H6, H4⟩
  iexists (fun i => (Function.update (A t) c X) (slotOf i) (inSlot i))
  have key := rooms_join c t (Function.update (A t) c X)
  rw [bigSep_order c fun o =>
      (owns (c : Thread nD τ) (slotO t o) fullShare (Function.update (A t) c X o) : sProp 𝕄)] at key
  simp only [Function.update_self, Function.update_of_ne (hne _)] at key
  iapply key
  iframe

end Bsa

end
-- ==== Proof.Bsa.Cells.lean ====
/- The kernel's own semaphores, taken together: their cells are opened when the kernel is entered and closed when it is
   left, and what a device holds of them is regrouped by flow. -/
module

public import proofs.«01_k».proof.Proof.Bsa.Slots
public import Idealize.ShloMosaic.Lib.Rounds.Family

@[expose] public section

noncomputable section

namespace Bsa

open Idealize.SL Idealize.SL.RA Idealize.SL.BI Idealize.SL.BI.Laws Idealize.SL.ProofMode Idealize.SL.Sem
open scoped Idealize.SL.BI
open Idealize.SL.BI.BIBase
open Idealize.ShloMosaic Idealize.ShloMosaic.TcCoe
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (A : Fin 2 → Dev nD → Vec F S2x256x256 .bf16)

/-- One thing for each of the seven flows. -/
def flows (Ψ : Fin 7 → sProp 𝕄) : sProp 𝕄 :=
  iprop(Ψ 0 ∗ Ψ 1 ∗ Ψ 2 ∗ Ψ 3 ∗ Ψ 4 ∗ Ψ 5 ∗ Ψ 6)

theorem flows_eq (Ψ : Fin 7 → sProp 𝕄) : bigSep Finset.univ Ψ = flows Ψ :=
  bigSep_univ_eq_bigSepL [0, 1, 2, 3, 4, 5, 6] (by decide) (by decide) Ψ

/-- One thing for each semaphore of the kernel is four for each flow: out and landing, in both arrays. -/
theorem bigSep_keys (Φ : Bool × Fin 2 × Fin 7 → sProp 𝕄) :
    bigSep Finset.univ Φ = flows fun f =>
      iprop((Φ (false, 0, f) ∗ Φ (false, 1, f)) ∗ (Φ (true, 0, f) ∗ Φ (true, 1, f))) := by
  rw [BI.bigSep_univ_prod,
    bigSep_univ_eq_bigSepL [false, true] (by decide) (by decide)
      (fun b => bigSep Finset.univ fun k => Φ (b, k))]
  show iprop((bigSep Finset.univ fun k => Φ (false, k)) ∗ (bigSep Finset.univ fun k => Φ (true, k))) = _
  rw [BI.bigSep_univ_prod, BI.bigSep_univ_prod, BI.bigSep_fin_two, BI.bigSep_fin_two,
    ← flows_eq, BI.bigSep_sep', BI.bigSep_sep', BI.bigSep_sep']
  rfl

theorem flows_merge (Φ Ψ Θ : Fin 7 → sProp 𝕄) (h : ∀ f, iprop(Φ f ∗ Ψ f) ⊢ Θ f) :
    iprop(flows Φ ∗ flows Ψ) ⊢ flows Θ := by
  rw [← flows_eq, ← flows_eq, ← flows_eq, ← BI.bigSep_sep']
  exact BI.bigSep_mono fun f _ => h f

theorem flows_split (Φ Ψ Θ : Fin 7 → sProp 𝕄) (h : ∀ f, Φ f ⊢ iprop(Ψ f ∗ Θ f)) :
    flows Φ ⊢ iprop(flows Ψ ∗ flows Θ) := by
  rw [← flows_eq, ← flows_eq, ← flows_eq, ← BI.bigSep_sep']
  exact BI.bigSep_mono fun f _ => h f

theorem flows_map (Φ Θ : Fin 7 → sProp 𝕄) (h : ∀ f, Φ f ⊢ Θ f) : flows Φ ⊢ flows Θ := by
  rw [← flows_eq, ← flows_eq]
  exact BI.bigSep_mono fun f _ => h f

variable (c : Dev nD) (κ : GSem nD τ sig → ℕ)

/-- The cell of the kernel's own semaphore `k` on device `c`. -/
abbrev cell (k : Bool × Fin 2 × Fin 7) : GSem nD τ sig := ((c : Thread nD τ), osem k)

theorem cell_mem (k : Bool × Fin 2 × Fin 7) : cell c k ∈ (barCells ∪ ownCells : Finset (GSem nD τ sig)) :=
  Finset.mem_union_right _ (Finset.mem_map_of_mem ownEmb (Finset.mem_univ (c, k)))

/-- Beside the records, each of a device's own cells has its invariant. -/
theorem recs_with (Φ : Bool × Fin 2 × Fin 7 → sProp 𝕄) :
    iprop(recs A κ ∗ bigSep Finset.univ Φ)
      ⊢ bigSep Finset.univ fun k => iprop(cellInv ER (sched A) (κ (cell c k)) (cell c k) ∗ Φ k) :=
  BI.bigSep_with_persistent fun k _ => sep_mono (recs_inv A κ (cell_mem c k)) .rfl

/-- The tickets of the transfers along flow `f`, array `t`: to send, to fill the slot at the other end, and the
    promise of what lands here. -/
def ticket (t : Fin 2) (f : Fin 7) : sProp 𝕄 :=
  iprop(dutyTok ER (snd t f c) 0 0 ∗ dutyTok ER (rcv t f (peer f c)) 0 0 ∗ cred (tallyAt (rcv t f c) () N))

/-- A flow ready to run: its tickets, its cells at the start. -/
def flowOpen (f : Fin 7) : sProp 𝕄 :=
  iprop(flowKit (F := F) c f ∗ reached ER (rcv 0 f c) 0 ∗ reached ER (rcv 1 f c) 0)

theorem flow_open (f : Fin 7) :
    iprop((((atPos ER (snd 0 f c) 0 ∅ 0 ∗ reached ER (snd 0 f c) 0) ∗ (atPos ER (snd 1 f c) 0 ∅ 0 ∗ reached ER (snd 1 f c) 0))
        ∗ ((atPos ER (rcv 0 f c) 0 ∅ 0 ∗ reached ER (rcv 0 f c) 0) ∗ (atPos ER (rcv 1 f c) 0 ∅ 0 ∗ reached ER (rcv 1 f c) 0)))
      ∗ (ticket (F := F) c 0 f ∗ ticket (F := F) c 1 f)) ⊢ (flowOpen (F := F) c f : sProp 𝕄) := by
  unfold ticket flowOpen flowKit sendF recvF atS sendKit recvKit
  iintro ⟨⟨⟨⟨Ha, #Hb⟩, ⟨Hc, #Hd⟩⟩, ⟨⟨He, #Hf⟩, ⟨Hg, #Hh⟩⟩⟩, ⟨⟨Hi, Hj, Hk⟩, ⟨Hl, Hm, Hn⟩⟩⟩
  iframe
  iframe Hb Hd Hf Hh

/-- Entering the kernel: its own cells, funded at the launch, are opened from their counters at zero. -/
theorem cells_enter :
    iprop(recs A κ ∗ (bigSep Finset.univ fun k => openTok ER (cell c k))
        ∗ (bigSep Finset.univ fun k => semVal (cell c k) 0)
        ∗ flows fun f => iprop(ticket (F := F) c 0 f ∗ ticket (F := F) c 1 f))
      ⊢ (|={Set.univ}=> flows (flowOpen (F := F) c) : sProp 𝕄) := by
  have h1 := recs_with A c κ (fun k => openTok ER (cell c k))
  have h2 := Rounds.cells_open ER (sched A) Finset.univ (cell c) (fun k => κ (cell c k)) (Es := Set.univ)
    (fun _ _ => Set.mem_univ _)
  have h3 := flows_merge _ _ (flowOpen (F := F) c) (flow_open c)
  rw [bigSep_keys (fun k => iprop(atPos ER (cell c k) 0 ∅ 0 ∗ reached ER (cell c k) 0))] at h2
  iintro ⟨HR, HO, HS, HT⟩
  ihave H1 := h1 $$ [HR HO]
  · iframe
  imod h2 $$ [H1 HS] with H2
  · iframe
  imodintro
  iapply h3
  isplitl [H2]
  · iexact H2
  iexact HT

theorem flow_close (f : Fin 7) : (flowDone (F := F) c f : sProp 𝕄)
    ⊢ iprop((atPos ER (cell c (false, 0, f)) 1 ∅ 0 ∗ atPos ER (cell c (false, 1, f)) 1 ∅ 0)
        ∗ (atPos ER (cell c (true, 0, f)) 1 ∅ 0 ∗ atPos ER (cell c (true, 1, f)) 1 ∅ 0)) := .rfl

/-- Leaving the kernel: its own cells, every round of theirs over, are closed and their counters are zero. -/
theorem cells_leave :
    iprop(recs A κ ∗ flows (flowDone (F := F) c))
      ⊢ (|={Set.univ}=> Pipeline.ownSems0 osem c : sProp 𝕄) := by
  have h0 := flows_map (flowDone (F := F) c) _ (flow_close c)
  rw [← bigSep_keys (fun k => atPos ER (cell c k) 1 ∅ 0)] at h0
  have h1 := recs_with A c κ (fun k => atPos ER (cell c k) 1 ∅ 0)
  have h2 := Rounds.cells_close ER (sched A) Finset.univ (cell c) (fun k => κ (cell c k)) (Es := Set.univ)
    (fun _ _ => Set.mem_univ _) (fun _ _ => id) (fun _ => 1) (fun k _ => duties_later A (cell c k))
  unfold Pipeline.ownSems0
  exact (sep_mono .rfl h0).trans (h1.trans h2)

/-- The barrier's cell, its round over, is closed and its counter is zero. -/
theorem bar_leave : iprop(recs A κ ∗ atPos ER (bar c) (0 + 1) ∅ 0) ⊢ (|={Set.univ}=> semVal (bar c) 0 : sProp 𝕄) :=
  (sep_mono (recs_inv A κ (bar_mem c)) .rfl).trans
    (Rounds.cell_close ER (sched A) (Set.mem_univ (κ (bar c))) id (duties_later A (bar c)))

end Bsa
-- ==== Proof.Bsa.BodyEq.lean ====
/- The printed body is the restated one, by unfolding. -/
module

public import proofs.«01_k».proof.Proof.Bsa.Body

@[expose] public section

noncomputable section

namespace Bsa

open Idealize.ShloMosaic Idealize.ShloMosaic.TcCoe Idealize.SL Idealize.SL.Sem
open Cert.KernelIdeal Cert.KernelIdeal.Gen

variable {F : FTy → Type} [FloatOps F]

set_option maxRecDepth 1000000 in
set_option maxHeartbeats 8000000 in
/-- The printed body is the restated one. -/
theorem body_eq (arg0 : Memref sig .tc .vmem S2x256x512 .f32) (harg0 : arg0.IsWhole)
    (arg1 : Memref sig .tc .vmem S512x256 .f32) (harg1 : arg1.IsWhole)
    (arg2 : Memref sig .tc .vmem S2x256x256 .bf16) (harg2 : arg2.IsWhole)
    (arg3 : Memref sig .tc .vmem S2x256x256 .bf16) (harg3 : arg3.IsWhole)
    (arg4 : Memref sig .tc .vmem S256x512 .f32) (harg4 : arg4.IsWhole)
    (arg5 : Memref sig .tc .vmem S2x256x512 .f32) (harg5 : arg5.IsWhole)
    (arg6 : Memref sig .tc .vmem S8x2x256x256 .bf16) (harg6 : arg6.IsWhole)
    (arg7 : Memref sig .tc .vmem S8x2x256x256 .bf16) (harg7 : arg7.IsWhole)
    (arg8 arg9 : DmaSems sig S2x7) :
    cc0_body (F := F) arg0 harg0 arg1 harg1 arg2 harg2 arg3 harg3 arg4 harg4 arg5 harg5 arg6 harg6
      arg7 harg7 arg8 arg9 =
    bodyC ![arg2, arg3] (isWhole_pair harg2 harg3) ![arg6, arg7] (isWhole_pair harg6 harg7)
      arg8 arg9 arg0 arg1 arg4 arg5 := rfl

end Bsa

end
-- ==== Proof.Bsa.Point.lean ====
/- The kernel's body at its one grid point, from what the launch gives a device to what it leaves behind. -/
module

public import proofs.«01_k».proof.Proof.Bsa.Cells
public import proofs.«01_k».proof.Proof.Bsa.BodyEq

@[expose] public section

noncomputable section

namespace Bsa

open Idealize.SL Idealize.SL.RA Idealize.SL.BI Idealize.SL.BI.Laws Idealize.SL.ProofMode Idealize.SL.Sem
open scoped Idealize.SL.BI
open Idealize.SL.BI.BIBase
open Idealize.ShloMosaic Idealize.ShloMosaic.TcCoe
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (A : Fin 2 → Dev nD → Vec F S2x256x256 .bf16) (c : Dev nD) (κ : GSem nD τ sig → ℕ)

/-- What a device begins with: the records, its tickets at the barrier, its flows ready to run. -/
def startK : sProp 𝕄 := iprop(∃ κ, recs A κ ∗ barKit (F := F) c ∗ flows (flowOpen (F := F) c))

/-- The array a device gathers, whatever it holds, and the flows make the permissions it gives its partners. -/
theorem give_start :
    iprop(flows (flowOpen (F := F) c) ∗ scratch (F := F) c 0 ∗ scratch (F := F) c 1)
      ⊢ iprop(flows (flowKit (F := F) c) ∗ (giveL (F := F) c ∗ giveR (F := F) c ∗ giveC (F := F) c)
          ∗ room (F := F) 0 c c ∗ room (F := F) 1 c c) := by
  have h0 := scratch_rooms (F := F) c 0
  have h1 := scratch_rooms (F := F) c 1
  have hg := give_all (F := F) c
  unfold flows flowOpen
  iintro ⟨⟨⟨K0, #a0, #b0⟩, ⟨K1, #a1, #b1⟩, ⟨K2, #a2, #b2⟩, ⟨K3, #a3, #b3⟩, ⟨K4, #a4, #b4⟩, ⟨K5, #a5, #b5⟩, ⟨K6, #a6, #b6⟩⟩, S0, S1⟩
  ihave R0 := h0 $$ S0
  icases R0 with ⟨r, r0, r1, r5, r2, r3, r6, r4⟩
  ihave R1 := h1 $$ S1
  icases R1 with ⟨s, s0, s1, s5, s2, s3, s6, s4⟩
  ihave G := hg $$ [r0 r1 r2 r3 r4 r5 r6 s0 s1 s2 s3 s4 s5 s6]
  · unfold permAt
    iframe
    iframe a0 b0 a1 b1 a2 b2 a3 b3 a4 b4 a5 b5 a6 b6
  iframe

/-- All semaphores closed and both gathering arrays given back. -/
theorem leave_all (κ : GSem nD τ sig → ℕ) :
    iprop(recs A κ ∗ atPos ER (bar c) (0 + 1) ∅ 0 ∗ flows (flowDone (F := F) c)
        ∗ (slotF A c (lft c) fullShare ∗ slotF A c (rgt c) fullShare
              ∗ slotF A c (chd c) fullShare ∗ slotF A c (lft (lft c)) fullShare
              ∗ slotF A c (rgt (rgt c)) fullShare ∗ slotF A c (land 6 c) fullShare
              ∗ slotF A c (land 4 c) fullShare)
        ∗ room (F := F) 0 c c ∗ room (F := F) 1 c c)
      ⊢ (|={Set.univ}=> iprop(semVal (bar c) 0 ∗ Pipeline.ownSems0 osem c
          ∗ scratch (F := F) c 0 ∗ scratch (F := F) c 1) : sProp 𝕄) := by
  have h0 := scratch_back (F := F) c 0 A
  have h1 := scratch_back (F := F) c 1 A
  have hb := bar_leave A c κ
  have hc := cells_leave A c κ
  unfold slotF
  iintro ⟨#HR, HB, HF, ⟨⟨s0, t0⟩, ⟨s1, t1⟩, ⟨s2, t2⟩, ⟨s3, t3⟩, ⟨s4, t4⟩, ⟨s5, t5⟩, ⟨s6, t6⟩⟩, r0, r1⟩
  imod hb $$ [HB] with HB
  · iframe
    iexact HR
  imod hc $$ [HF] with HC
  · iframe
    iexact HR
  imodintro
  ihave S0 := h0 $$ [r0 s0 s1 s2 s3 s4 s5 s6]
  · iframe
  ihave S1 := h1 $$ [r1 t0 t1 t2 t3 t4 t5 t6]
  · iframe
  iframe

/-- The staged operands: `x`, `Wq`, the two own blocks, `Wo`, and the result at `X`. -/
def staged (x : Vec F S2x256x512 .f32) (wq : Vec F S512x256 .f32) (wo : Vec F S256x512 .f32)
    (X : Vec F S2x256x512 .f32) : sProp 𝕄 :=
  iprop(owns (c : Thread nD τ) (Memref.whole cc0_stg0_0) fullShare x
    ∗ owns (c : Thread nD τ) (Memref.whole cc0_stg1_0) fullShare wq
    ∗ owns (c : Thread nD τ) (Memref.whole cc0_stg2_0) fullShare (A 0 c)
    ∗ owns (c : Thread nD τ) (Memref.whole cc0_stg3_0) fullShare (A 1 c)
    ∗ owns (c : Thread nD τ) (Memref.whole cc0_stg4_0) fullShare wo
    ∗ owns (c : Thread nD τ) (Memref.whole cc0_stg5_0) fullShare X)

/-- The body as launched, on the staging buffers. -/
abbrev bodyL : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    cc0_scratch2 cc0_scratch3

theorem bodyL_eq : (bodyL (F := F)) = bodyC stgs stgs_whole bufs bufs_whole cc0_scratch2 cc0_scratch3
    (Memref.whole cc0_stg0_0) (Memref.whole cc0_stg1_0) (Memref.whole cc0_stg4_0) (Memref.whole cc0_stg5_0) :=
  body_eq _ _ _ _ _ _ _ _ _ _ _ _ _ _ _ _ _ _

theorem wp_bodyL (Q : PUnit → sProp 𝕄) :
    wpc c (bodyAt stgs stgs_whole bufs bufs_whole cc0_scratch2 cc0_scratch3
      (Memref.whole cc0_stg0_0) (Memref.whole cc0_stg1_0) (Memref.whole cc0_stg4_0) (Memref.whole cc0_stg5_0) c)
      (fun a => iprop(|={Set.univ}=> Q a))
    ⊢ wpc c (bodyL (F := F)) Q := by
  refine .trans (wp_fupd _ _ Set.univ _ _) ?_
  rw [bodyL_eq]
  unfold bodyC
  simp only [Prog.lift, Prog.bind_op, Prog.bind_ret, wp_deviceId]
  exact .rfl

/-- All a device has when the body ends. -/
def finished (x : Vec F S2x256x512 .f32) (wq : Vec F S512x256 .f32) (wo : Vec F S256x512 .f32) : sProp 𝕄 :=
  iprop((semVal (bar c) 0 ∗ Pipeline.ownSems0 osem c ∗ scratch (F := F) c 0 ∗ scratch (F := F) c 1)
    ∗ owesL c [] ∗ staged A c x wq wo (outBlk A c x wq wo))

theorem at_run (x : Vec F S2x256x512 .f32) (wq : Vec F S512x256 .f32) (wo : Vec F S256x512 .f32)
    (X : Vec F S2x256x512 .f32) :
    (iprop(startK A c ∗ scratch (F := F) c 0 ∗ scratch (F := F) c 1 ∗ owesL c (owe0 c) ∗ staged A c x wq wo X) : sProp 𝕄)
      ⊢ wpc c (bodyAt stgs stgs_whole bufs bufs_whole cc0_scratch2 cc0_scratch3
      (Memref.whole cc0_stg0_0) (Memref.whole cc0_stg1_0) (Memref.whole cc0_stg4_0) (Memref.whole cc0_stg5_0) c)
      (fun _ => iprop(|={Set.univ}=> finished A c x wq wo)) := by
  have hg := give_start (F := F) c
  unfold startK
  iintro ⟨⟨%κ, #HR, HB, HF⟩, S0, S1, HO, HS⟩
  have hl := leave_all A c κ
  have hr := run_body A κ c (Memref.whole cc0_stg0_0) (Memref.whole cc0_stg1_0) (Memref.whole cc0_stg4_0)
    (Memref.whole cc0_stg5_0) x wq wo X (fun _ => iprop(|={Set.univ}=> finished A c x wq wo))
  ihave G := hg $$ [HF S0 S1]
  · iframe
  icases G with ⟨HK, HG, r0, r1⟩
  unfold finished staged flows ownF ownB at *
  icases HS with ⟨H0, H1, H2, H3, H4, H5⟩
  iapply hr $$ [HO HB HK HG H0 H1 H2 H3 H4 H5]
  · iframe
    isplitr
    · iexact HR
    isplitl [H2]
    · iexact H2
    iexact H3
  iintro ⟨HO, HB, HF, HS, ⟨H2, H3⟩, H0, H1, H4, H5⟩
  imod hl $$ [HB HF HS r0 r1] with HL
  · iframe
    iexact HR
  imodintro
  iframe
  isplitl [H2]
  · iexact H2
  iexact H3

/-- The body from start to end: the result is staged, every debt paid, every semaphore at zero. -/
theorem body_run (x : Vec F S2x256x512 .f32) (wq : Vec F S512x256 .f32) (wo : Vec F S256x512 .f32)
    (X : Vec F S2x256x512 .f32) :
    iprop(startK A c ∗ scratch (F := F) c 0 ∗ scratch (F := F) c 1 ∗ owesL c (owe0 c) ∗ staged A c x wq wo X)
      ⊢ wpc c (bodyL (F := F)) fun _ => finished A c x wq wo :=
  (at_run A c x wq wo X).trans (wp_bodyL c _)

end Bsa
-- ==== Proof.Bsa.Region.lean ====
/- The kernel's launch site as one segment of the program: what its arrays hold on entry and on exit, and the protocol
   that runs inside. -/
module

public import proofs.«01_k».proof.Proof.Bsa.Point
public import proofs.«01_k».proof.Proof.Gen.KernelIdeal.Frame
public import Idealize.ShloMosaic.Lib.Pipeline.RegionTalk

@[expose] public section

noncomputable section

namespace Bsa

open Idealize.SL Idealize.SL.RA Idealize.SL.BI Idealize.SL.BI.Laws Idealize.SL.ProofMode Idealize.SL.Sem
open scoped Idealize.SL.BI
open Idealize.SL.BI.BIBase
open Idealize.ShloMosaic Idealize.ShloMosaic.TcCoe
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (b : Loc nD τ sig) → Buf (Elt F) b) (c : Dev nD)

/-- What device `c`'s buffers hold at launch, and once the host has reshaped and narrowed K and V. -/
def V₀ : Valuation τ sig (Elt F) := fun b => m (c, b)
def V₁ : Valuation τ sig (Elt F) := StableHlo.after hostOps0 (V₀ m c)

/-- What the kernel reads of each operand. -/
def xB : Vec F S2x256x512 .f32 := (win0_0.blk t0_0).view.read (Elt F) (V₁ m c (Proc.devRef .tc main_arg0))
def wqB : Vec F S512x256 .f32 := (win0_1.blk t0_0).view.read (Elt F) (V₁ m c (Proc.devRef .tc main_arg1))
def kB : Vec F S2x256x256 .bf16 := (win0_2.blk t0_0).view.read (Elt F) (V₁ m c (Proc.devRef .tc main_v2))
def vB : Vec F S2x256x256 .bf16 := (win0_3.blk t0_0).view.read (Elt F) (V₁ m c (Proc.devRef .tc main_v4))
def woB : Vec F S256x512 .f32 := (win0_4.blk t0_0).view.read (Elt F) (V₁ m c (Proc.devRef .tc main_arg4))

/-- Every device's block of K and of V. -/
def AA : Fin 2 → Dev nD → Vec F S2x256x256 .bf16 := ![kB m, vB m]

/-- What device `c`'s kernel computes. -/
def outV : Vec F S2x256x512 .f32 := outBlk (AA m) c (xB m c) (wqB m c) (woB m c)

/-- The protocol's state before the one point, and after it. -/
def Φ₀ : sProp 𝕄 :=
  iprop(startK (AA m) c ∗ scratch (F := F) c 0 ∗ scratch (F := F) c 1 ∗ ∃ r, prngReg c r)
def Φ₁ : sProp 𝕄 :=
  iprop((semVal (bar c) 0 ∗ Pipeline.ownSems0 osem c ∗ scratch (F := F) c 0 ∗ scratch (F := F) c 1)
    ∗ ∃ r, prngReg c r)

def dat0 : Pipeline.Dat τ (Elt F) Unit ℕ UU ℕ cfg0 c where
  A w := V₁ m c (Proc.devRef .tc (Pipeline.arrRef spec0 w))
  after w _ := match w with
    | ⟨0, _⟩ => xB m c
    | ⟨1, _⟩ => wqB m c
    | ⟨2, _⟩ => kB m c
    | ⟨3, _⟩ => vB m c
    | ⟨4, _⟩ => woB m c
    | ⟨5, _⟩ => outV m c
  Φ t := if t.val = 0 then Φ₀ m c else Φ₁ c
  q _ := fullShare
  owed t := if t.val = 0 then owedL (owe0 c) else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat0 m

theorem owed_first : (dat0 m c).owed t0_0.castSucc = owedL (owe0 c) := by
  show (if (t0_0.castSucc : Fin (cfg0.N + 1)).val = 0 then owedL (owe0 c) else 0) = _
  exact if_pos rfl
theorem owed_last : (pdats m 0 c).owed (Fin.last _) = 0 := by
  show (if (Fin.last cfg0.N).val = 0 then owedL (owe0 c) else 0) = 0
  rw [Fin.val_last, if_neg (by rw [show cfg0.N = 1 from N_0]; decide)]
theorem owed_succ : (dat0 m c).owed t0_0.succ = 0 := by
  show (if (t0_0.succ : Fin (cfg0.N + 1)).val = 0 then owedL (owe0 c) else 0) = 0
  exact if_neg (Nat.succ_ne_zero _)

theorem owes_in (t : Fin (cfg0.N + 1)) (l : List (GSem nD τ sig × ℕ)) (h : (dat0 m c).owed t = owedL l) :
    (owesL c l : sProp 𝕄) ⊢ ((dat0 m c).owesAt () t : sProp 𝕄) := by
  unfold Dat.owesAt Pipeline.owesWithin Dat.bound owesL
  rw [h, show (dat0 m c).recorded t = Set.univ from rfl]
  iintro ⟨%W, HO⟩; iexists W
  isplitr
  · ipureintro; exact fun _ _ => Or.inl trivial
  iexact HO
theorem owes_out (t : Fin (cfg0.N + 1)) (l : List (GSem nD τ sig × ℕ)) (h : (dat0 m c).owed t = owedL l) :
    ((dat0 m c).owesAt () t : sProp 𝕄) ⊢ (owesL c l : sProp 𝕄) := by
  unfold Dat.owesAt Pipeline.owesWithin owesL
  rw [h]
  iintro ⟨%W, -, HO⟩; iexists W; iexact HO

theorem before0 (d) : (dat0 m c).before 0 t0_0 d = xB m c := by
  unfold Dat.before; rw [if_pos (fetch0_0 t0_0)]; rfl
theorem before1 (d) : (dat0 m c).before 1 t0_0 d = wqB m c := by
  unfold Dat.before; rw [if_pos (fetch0_1 t0_0)]; rfl
theorem before2 (d) : (dat0 m c).before 2 t0_0 d = kB m c := by
  unfold Dat.before; rw [if_pos (fetch0_2 t0_0)]; rfl
theorem before3 (d) : (dat0 m c).before 3 t0_0 d = vB m c := by
  unfold Dat.before; rw [if_pos (fetch0_3 t0_0)]; rfl
theorem before4 (d) : (dat0 m c).before 4 t0_0 d = woB m c := by
  unfold Dat.before; rw [if_pos (fetch0_4 t0_0)]; rfl

/-- The staging buffers as the point finds them. -/
def pointPre : sProp 𝕄 :=
  iprop(Φ₀ m c ∗ (dat0 m c).owesAt () t0_0.castSucc
    ∗ (∃ d, owns (c : Thread nD τ) (Memref.whole cc0_stg0_0) fullShare ((dat0 m c).before 0 t0_0 d))
    ∗ (∃ d, owns (c : Thread nD τ) (Memref.whole cc0_stg1_0) fullShare ((dat0 m c).before 1 t0_0 d))
    ∗ (∃ d, owns (c : Thread nD τ) (Memref.whole cc0_stg2_0) fullShare ((dat0 m c).before 2 t0_0 d))
    ∗ (∃ d, owns (c : Thread nD τ) (Memref.whole cc0_stg3_0) fullShare ((dat0 m c).before 3 t0_0 d))
    ∗ (∃ d, owns (c : Thread nD τ) (Memref.whole cc0_stg4_0) fullShare ((dat0 m c).before 4 t0_0 d))
    ∗ (∃ d, owns (c : Thread nD τ) (Memref.whole cc0_stg5_0) fullShare ((dat0 m c).before 5 t0_0 d)))
/-- And as it leaves them. -/
def pointPost : sProp 𝕄 :=
  iprop(Φ₁ c ∗ (dat0 m c).owesAt () t0_0.succ
    ∗ owns (c : Thread nD τ) (Memref.whole cc0_stg0_0) fullShare (xB m c)
    ∗ owns (c : Thread nD τ) (Memref.whole cc0_stg1_0) fullShare (wqB m c)
    ∗ owns (c : Thread nD τ) (Memref.whole cc0_stg2_0) fullShare (kB m c)
    ∗ owns (c : Thread nD τ) (Memref.whole cc0_stg3_0) fullShare (vB m c)
    ∗ owns (c : Thread nD τ) (Memref.whole cc0_stg4_0) fullShare (woB m c)
    ∗ owns (c : Thread nD τ) (Memref.whole cc0_stg5_0) fullShare (outV m c))

theorem point_post (P : sProp 𝕄) (hP : P = iprop(∃ r, prngReg c r)) :
    iprop(P ∗ finished (AA m) c (xB m c) (wqB m c) (woB m c)) ⊢ (pointPost m c : sProp 𝕄) := by
  have ho := owes_in m c t0_0.succ [] (owed_succ m c)
  subst hP
  unfold finished staged pointPost Φ₁
  iintro ⟨HP, HF, HO, H0, H1, H2, H3, H4, H5⟩
  ihave HO := ho $$ HO
  iframe
  isplitl [H2]
  · iexact H2
  isplitl [H3]
  · iexact H3
  iexact H5

theorem point_run : (pointPre m c : sProp 𝕄) ⊢ wpc c (bodyL (F := F)) fun _ => pointPost m c := by
  have ho := owes_out m c t0_0.castSucc (owe0 c) (owed_first m c)
  have hf (d) := before0 m c d
  have hp := point_post m c _ rfl
  unfold pointPre Φ₀
  iintro ⟨⟨HS, S0, S1, HP⟩, HO, ⟨%d0, H0⟩, ⟨%d1, H1⟩, ⟨%d2, H2⟩, ⟨%d3, H3⟩, ⟨%d4, H4⟩, ⟨%d5, H5⟩⟩
  have hr := (body_run (AA m) c (xB m c) (wqB m c) (woB m c) ((dat0 m c).before 5 t0_0 d5)).trans
    (wp_wand frame (wpE (defs₀ (F := F)) 𝒱₀ (c : Thread nD τ) none) Set.univ (Q' := fun _ => pointPost m c))
  ihave HO := ho $$ HO
  rw [before0, before1, before2, before3, before4]
  unfold staged at hr
  iapply hr $$ [HS S0 S1 HO H0 H1 H2 H3 H4 H5]
  · iframe
    isplitl [H2]
    · iexact H2
    iexact H3
  iintro %a HF
  iapply hp
  iframe

/-- The body obligation of the launch site. -/
theorem body_ob : BodyObligation (dat0 m c) (defs₀ (F := F)) 𝒱₀ () Set.univ := fun t => by
  rw [fin_N0 t, bigSep_W0, bigSep_W0]
  show pointPre m c ⊢ wpc c (bodyL (F := F)) fun _ => pointPost m c
  exact point_run m c

/-! ## Opening and closing -/

/-- What the launch keeps for the kernel: records, tickets, and the funds of its own cells. -/
def Tk : sProp 𝕄 :=
  iprop(∃ κ, recs (AA m) κ ∗ barKit (F := F) c ∗ (bigSep Finset.univ fun k => openTok ER (cell c k))
    ∗ flows fun f => iprop(ticket (F := F) c 0 f ∗ ticket (F := F) c 1 f))
/-- What the kernel leaves: the barrier's counter at zero. -/
def Yk : sProp 𝕄 := semVal (bar c) 0

theorem hopen :
    iprop(Tk m c ∗ Pipeline.ownSems0 osem c ∗ levAts L lv) ⊢ (|={Set.univ}=> startK (AA m) c : sProp 𝕄) := by
  unfold Tk startK Pipeline.ownSems0
  iintro ⟨⟨%κ, #HR, HB, HO, HT⟩, HS, -⟩
  have h := cells_enter (AA m) c κ
  imod h $$ [HO HS HT] with HF
  · iframe
    iexact HR
  imodintro
  iexists κ
  iframe
  iexact HR

/-- A gathering array, whatever it holds, as the launch names it. -/
theorem scratch_whole (b : Ref sig .tc) (sc : sProp 𝕄)
    (h : sc = iprop(∃ X, owns (c : Thread nD τ) (Memref.whole b) fullShare X)) :
    sc ⊣⊢ iprop(∃ f : Buf (Elt F) ((c : Thread nD τ).loc b), ((c : Thread nD τ).loc b) ↦{fullShare} f) := by
  subst h
  simp only [owns_whole_eq]
  constructor
  · iintro ⟨%X, %f, -, H⟩
    iexists f
    iexact H
  · iintro ⟨%f, H⟩
    iexists f, f
    iframe
    ipureintro; rfl

theorem scratch_0 : scratch (F := F) c 0 ⊣⊢ iprop(∃ f : Buf (Elt F) ((c : Thread nD τ).loc cc0_scratch0), ((c : Thread nD τ).loc cc0_scratch0) ↦{fullShare} f) :=
  scratch_whole c cc0_scratch0 _ rfl
theorem scratch_1 : scratch (F := F) c 1 ⊣⊢ iprop(∃ f : Buf (Elt F) ((c : Thread nD τ).loc cc0_scratch1), ((c : Thread nD τ).loc cc0_scratch1) ↦{fullShare} f) :=
  scratch_whole c cc0_scratch1 _ rfl

theorem cutD (t : Fin ((Pipeline.pin (pcfgs (F := F)) adm 0).N + 1)) (g : GSem nD τ sig) (i : Unit)
    (h : 0 < (pdats m 0 c).owed t g i) : i ∈ L g ∧ (0 : ℕ) < lv g i := by
  have e : (pdats m 0 c).owed t = if t.val = 0 then owedL (owe0 c) else 0 := rfl
  rw [e] at h
  split at h
  · obtain ⟨p, hp, rfl⟩ := owedL_pos _ g i h
    have : ∀ p ∈ owe0 c, p.1.1.2 = .tc ∧ 0 < lv p.1 () := by
      intro p hp
      simp only [owe0, owe1, owe2, owe4, List.mem_cons, List.not_mem_nil, or_false] at hp
      rcases hp with h | h | h | h | h | h | h | h | h | h | h | h | h | h | h | h | h <;> subst h <;>
        exact ⟨rfl, by first | (rw [lv_rcv]; decide) | (rw [lv_bar]; decide)⟩
    refine ⟨?_, (this p hp).2⟩
    unfold L; rw [if_pos (this p hp).1]; exact Finset.mem_singleton_self _
  · exact absurd h (Nat.lt_irrefl 0)

theorem hin (R : sProp 𝕄) : iprop(Pipeline.scopedRest (Pipeline.pin (pcfgs (F := F)) adm 0).spec c
      ∗ (∃ r, prngReg c r) ∗ R ∗ startK (AA m) c) ⊢ (pdats m 0 c).Φ 0 := by
  rw [show (pdats m 0 c).Φ 0 = Φ₀ m c from rfl, show (Pipeline.pin (pcfgs (F := F)) adm 0).spec = spec0 from rfl, scopedRest0_eq]
  have h0 := (scratch_0 (F := F) c).2
  have h1 := (scratch_1 (F := F) c).2
  unfold Φ₀
  iintro ⟨⟨H0, H1⟩, HP, -, HS⟩
  ihave H0 := h0 $$ H0
  ihave H1 := h1 $$ H1
  iframe

theorem hout (R : sProp 𝕄) (hR : R = BI.emp) : (pdats m 0 c).Φ (Fin.last (Pipeline.pin (pcfgs (F := F)) adm 0).N)
    ⊢ iprop(Pipeline.scopedRest (Pipeline.pin (pcfgs (F := F)) adm 0).spec c ∗ (∃ r, prngReg c r) ∗ R
        ∗ Pipeline.ownSems0 osem c ∗ Yk (F := F) c) := by
  have e : (pdats m 0 c).Φ (Fin.last _) = if (Fin.last cfg0.N).val = 0 then Φ₀ m c else Φ₁ c := rfl
  rw [e, Fin.val_last, if_neg (by rw [show cfg0.N = 1 from N_0]; decide),
    show (Pipeline.pin (pcfgs (F := F)) adm 0).spec = spec0 from rfl, scopedRest0_eq, hR]
  have h0 := (scratch_0 (F := F) c).1
  have h1 := (scratch_1 (F := F) c).1
  unfold Φ₁ Yk
  iintro ⟨⟨HB, HO, H0, H1⟩, HP⟩
  ihave H0 := h0 $$ H0
  ihave H1 := h1 $$ H1
  iframe
  iempintro

/-- What device `c`'s buffers hold when the kernel ends: its result's array written, the rest as it was. -/
def V₂ : Valuation τ sig (Elt F) :=
  Function.update (V₁ m c) (Proc.devRef .tc main_v5) ((dat0 m c).arrAt 5 cfg0.N)

theorem V₂_out : V₂ m c (Proc.devRef .tc main_v5) = (dat0 m c).arrAt 5 cfg0.N := Function.update_self ..
theorem V₂_of_ne (b : DevRef τ sig) (h : b ≠ Proc.devRef .tc main_v5) : V₂ m c b = V₁ m c b :=
  Function.update_of_ne h ..

theorem arr_end (w : Fin 6) :
    (dat0 m c).arrAt w cfg0.N = V₂ m c (Proc.devRef .tc (Pipeline.arrRef spec0 w)) := by
  fin_cases w
  · exact ((dat0 m c).arrAt_in 0 rfl _).trans (V₂_of_ne m c (Proc.devRef .tc main_arg0) (by decide)).symm
  · exact ((dat0 m c).arrAt_in 1 rfl _).trans (V₂_of_ne m c (Proc.devRef .tc main_arg1) (by decide)).symm
  · exact ((dat0 m c).arrAt_in 2 rfl _).trans (V₂_of_ne m c (Proc.devRef .tc main_v2) (by decide)).symm
  · exact ((dat0 m c).arrAt_in 3 rfl _).trans (V₂_of_ne m c (Proc.devRef .tc main_v4) (by decide)).symm
  · exact ((dat0 m c).arrAt_in 4 rfl _).trans (V₂_of_ne m c (Proc.devRef .tc main_arg4) (by decide)).symm
  · exact (V₂_out m c).symm

/-- The buffers of the program that no window stages. -/
abbrev restRefs : Finset (DevRef τ sig) :=
  {Proc.devRef .tc main_arg2, Proc.devRef .tc main_arg3, Proc.devRef .tc main_v1, Proc.devRef .tc main_v3}

theorem rest_end (b : DevRef τ sig) (h : b ∈ restRefs \ ∅) : V₂ m c b = V₁ m c b := by
  refine V₂_of_ne m c b fun e => ?_
  subst e
  revert h
  decide

/-- A staging semaphore lies at the lowest level. -/
theorem stage_level : ∀ (w : Fin 6) (s : Fin (cfg0.win w).nbuf),
    lv ((c : Thread nD τ), .dma ((cfg0.win w).sem s)) () ≤ 0 := by
  intro w
  fin_cases w <;> intro s <;> fin_cases s <;> exact le_refl 0

theorem share_full (w : Fin 6) : (dat0 m c).share w = fullShare := by
  unfold Dat.share; split <;> rfl

set_option backward.isDefEq.respectTransparency.types false in
/-- The launch site as a segment of the program. -/
def site : Pipeline.RegionSeg (pcfgs (F := F)) adm (pdats m) () defs₀ 𝒱₀ L lv 0 :=
  Pipeline.RegionSeg.ofTalk (pcfgs (F := F)) adm (pdats m) () defs₀ 𝒱₀ L lv 0 osem
    (by decide : Pipeline.OwnSemFacts spec0 osem)
    ∅ restRefs (Finset.empty_subset _) launch0.toP rfl (fun c => (body_ob m c).loose)
    (fun _ => 0) (fun c => owedL (owe0 c)) (fun c => (owed_first m c).trans (zero_add _).symm) (owed_last m)
    (fun _ => rfl) (fun c w => share_full m c w)
    (V₁ m) (V₂ m) (fun c b hb => rest_end m c b hb)
    (Tk m) (Yk (F := F)) (fun c => startK (AA m) c) (Yk (F := F)) (hopen m) (fun c => hin m c _)
    (fun c => hout m c _ BI.bigSep_empty)
    (fun c => by iintro H; imodintro; iexact H)
    (fun _ => 0)
    ⟨fun c w s => by rw [L_tc]; exact Finset.mem_singleton_self _,
      fun c w s => stage_level c w s, fun c t g i h => cutD m c t g i h⟩
    (fun _ => iprop(emp))
    (fun _ _ => rfl) (fun c w => arr_end m c w)

end Bsa
-- ==== Proof.Bsa.Deal.lean ====
/- What the launch hands out: every duty's ticket to the device that discharges it, and to the owner of each cell the
   promise of what the others owe it. -/
module

public import proofs.«01_k».proof.Proof.Bsa.Cells

@[expose] public section

noncomputable section

namespace Bsa

open Idealize.SL Idealize.SL.RA Idealize.SL.BI Idealize.SL.BI.Laws Idealize.SL.ProofMode Idealize.SL.Sem
open scoped Idealize.SL.BI
open Idealize.SL.BI.BIBase
open Idealize.ShloMosaic Idealize.ShloMosaic.TcCoe
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

/-! ## The promises -/

/-- What the list of debts owes to a cell. -/
theorem owedL_at (l : List (GSem nD τ sig × ℕ)) (g : GSem nD τ sig) :
    owedL l g () = (l.map fun p => if g = p.1 then p.2 else 0).sum := by
  induction l with
  | nil => rfl
  | cons p l ih =>
    obtain ⟨g', n⟩ := p
    show owedL l g () + tallyAt g' () n g () = _
    rw [tallyAt_apply, List.map_cons, List.sum_cons, ih, Nat.add_comm]
    simp

theorem rcv_eq_iff (t t' : Fin 2) (f f' : Fin 7) (c c' : Dev nD) :
    rcv t f c = rcv t' f' c' ↔ t = t' ∧ f = f' ∧ c = c' := by
  constructor
  · intro h
    have h1 : c = c' := congrArg (fun g : GSem nD τ sig => g.1.1) h
    have h2 : osem (true, t, f) = osem (true, t', f') := congrArg (fun g : GSem nD τ sig => g.2) h
    have h3 := osem_inj h2
    simp only [Prod.mk.injEq, true_and] at h3
    exact ⟨h3.1, h3.2, h1⟩
  · rintro ⟨rfl, rfl, rfl⟩; rfl

theorem rcv_ne_bar (t : Fin 2) (f : Fin 7) (c c' : Dev nD) : rcv t f c ≠ bar c' := fun h =>
  osem_ne_bar (true, t, f) (congrArg (fun g : GSem nD τ sig => g.2) h)

theorem bar_eq_iff (c c' : Dev nD) : bar c = bar c' ↔ c = c' :=
  ⟨fun h => congrArg (fun g : GSem nD τ sig => g.1.1) h, fun h => congrArg bar h⟩

theorem owed_rcv (t : Fin 2) (f : Fin 7) (c d : Dev nD) :
    owedL (owe0 d) (rcv t f c) () = if d = frm f c then N else 0 := by
  have hE : (if c = peer f d then N else 0) = if d = frm f c then N else 0 :=
    if_congr ⟨fun h => by rw [h, frm_peer], fun h => by rw [h, peer_frm]⟩ rfl rfl
  rw [owedL_at, ← hE]
  simp only [owe0, owe1, owe2, owe4, debt, List.map_cons, List.map_nil, List.sum_cons, List.sum_nil,
    rcv_eq_iff, rcv_ne_bar, if_false]
  fin_cases t <;> fin_cases f <;> simp

theorem owed_bar (c d : Dev nD) : owedL (owe0 d) (bar c) ()
    = (if c = lft d then 1 else 0) + ((if c = rgt d then 1 else 0) + (if c = chd d then 1 else 0)) := by
  rw [owedL_at]
  simp only [owe0, owe1, owe2, owe4, debt, List.map_cons, List.map_nil, List.sum_cons, List.sum_nil,
    fun t f c c' => (rcv_ne_bar t f c c').symm, bar_eq_iff, if_false, add_zero]

theorem credit_rcv (t : Fin 2) (f : Fin 7) (c : Dev nD) :
    tallyOn (rcv t f c) (launchCredit (Pipeline.owing fun d => owedL (owe0 d)) 0 (rcv t f c))
      = (tallyAt (rcv t f c) () N : CellTallies nD τ sig Unit) := by
  unfold tallyAt; refine congrArg _ (Finsupp.ext fun u => ?_); cases u
  rw [Pipeline.launchCredit_owing, Finsupp.single_eq_same, Finset.sum_congr rfl fun d _ => owed_rcv t f c d,
    Finset.sum_ite_eq' Finset.univ (frm f c) fun _ => N, if_pos (Finset.mem_univ _)]

theorem credit_bar (c : Dev nD) :
    tallyOn (bar c) (launchCredit (Pipeline.owing fun d => owedL (owe0 d)) 0 (bar c))
      = (tallyAt (bar c) () 3 : CellTallies nD τ sig Unit) := by
  unfold tallyAt; refine congrArg _ (Finsupp.ext fun u => ?_); cases u
  rw [Pipeline.launchCredit_owing, Finsupp.single_eq_same, Finset.sum_congr rfl fun d _ => owed_bar c d]
  revert c; decide

/-- The kernel's own semaphores among all. -/
def osemEmb : Bool × Fin 2 × Fin 7 ↪ SemLoc sig := ⟨osem, osem_inj⟩

/-- Of a device's launch credit: the three signals at its barrier, and what lands on each flow. -/
theorem credits (c : Dev nD) :
    (Pipeline.launchCred (fun d => owedL (owe0 d)) c : sProp 𝕄)
      ⊢ iprop(cred (tallyAt (bar c) () 3)
          ∗ flows fun f => iprop(cred (tallyAt (rcv 0 f c) () N) ∗ cred (tallyAt (rcv 1 f c) () N))) := by
  unfold Pipeline.launchCred
  rw [bigSep_univ_at _ (SemLoc.reg barS), credit_bar]
  refine sep_mono_right ?_
  refine (BI.bigSep_subset (s := Finset.univ.erase (SemLoc.reg barS)) (t := Finset.univ.map osemEmb) (fun x hx => by
    obtain ⟨k, -, rfl⟩ := Finset.mem_map.mp hx
    exact Finset.mem_erase.mpr ⟨osem_ne_bar k, Finset.mem_univ _⟩)).trans ?_
  rw [bigSep_map, bigSep_keys]
  refine flows_map _ _ fun f => sep_elim_right.trans ?_
  rw [← credit_rcv, ← credit_rcv]
  exact .rfl

/-! ## The tickets -/

/-- The keys of one device's tickets: the three signals at its barrier, and one for each of its own semaphores. -/
abbrev TokKey : Type := Fin 3 ⊕ (Bool × Fin 2 × Fin 7)

def tokOf (c : Dev nD) : TokKey → GSem nD τ sig × ℕ × Fin 3
  | .inl d => (bar c, 0, d)
  | .inr k => (cell c k, 0, 0)

theorem tokOf_inj : Function.Injective fun x : Dev nD × TokKey => tokOf x.1 x.2 := by
  rintro ⟨c, k⟩ ⟨c', k'⟩ h
  have hc : c = c' := by
    have := congrArg (fun t : GSem nD τ sig × ℕ × Fin 3 => t.1.1.1) h
    cases k <;> cases k' <;> exact this
  subst hc
  refine Prod.ext rfl ?_
  have hs := congrArg (fun t : GSem nD τ sig × ℕ × Fin 3 => t.1.2) h
  have hd := congrArg (fun t : GSem nD τ sig × ℕ × Fin 3 => t.2.2) h
  cases k <;> cases k'
  · exact congrArg Sum.inl hd
  · exact absurd hs.symm (osem_ne_bar _)
  · exact absurd hs (osem_ne_bar _)
  · exact congrArg Sum.inr (osem_inj hs)

def allToks : Finset (GSem nD τ sig × ℕ × Fin 3) :=
  Finset.univ.map ⟨fun x : Dev nD × TokKey => tokOf x.1 x.2, tokOf_inj⟩

/-- The tickets at a device's own cells. -/
def barToks (a b d : Dev nD) : sProp 𝕄 :=
  iprop(dutyTok ER (bar a) 0 0 ∗ dutyTok ER (bar b) 0 1 ∗ dutyTok ER (bar d) 0 2)
def flowToks (f : Fin 7) (c d : Dev nD) : sProp 𝕄 :=
  iprop((dutyTok ER (snd 0 f c) 0 0 ∗ dutyTok ER (snd 1 f c) 0 0)
    ∗ (dutyTok ER (rcv 0 f d) 0 0 ∗ dutyTok ER (rcv 1 f d) 0 0))

theorem toks_eq : bigSep allToks (fun x => (dutyTok ER x.1 x.2.1 x.2.2 : sProp 𝕄))
    = iprop((bigSep Finset.univ fun c : Dev nD => barToks (F := F) c c c)
        ∗ (bigSep Finset.univ fun c : Dev nD => flows fun f => flowToks (F := F) f c c)) := by
  unfold allToks
  rw [bigSep_map, BI.bigSep_univ_prod, ← BI.bigSep_sep']
  refine BI.bigSep_congr fun c _ => ?_
  rw [BI.bigSep_univ_sum]
  refine congrArg₂ _ ?_ ?_
  · exact bigSep_univ_eq_bigSepL [0, 1, 2] (by decide) (by decide) _
  · exact bigSep_keys _

/-- The barrier's tickets, each handed to the device that signals. -/
theorem bar_around : (bigSep Finset.univ fun c : Dev nD => barToks (F := F) c c c)
    = bigSep Finset.univ fun c : Dev nD => barToks (F := F) (lft c) (rgt c) (chd c) := by
  unfold barToks
  rw [BI.bigSep_sep', BI.bigSep_sep', BI.bigSep_sep', BI.bigSep_sep',
    BI.bigSep_univ_equiv lftE (fun c : Dev nD => (dutyTok ER (bar c) 0 0 : sProp 𝕄)),
    BI.bigSep_univ_equiv rgtE (fun c : Dev nD => (dutyTok ER (bar c) 0 1 : sProp 𝕄)),
    BI.bigSep_univ_equiv chdE (fun c : Dev nD => (dutyTok ER (bar c) 0 2 : sProp 𝕄))]
  rfl

/-- A flow's tickets, the landing ones handed to the device that sends. -/
theorem flow_around (f : Fin 7) : (bigSep Finset.univ fun c : Dev nD => flowToks (F := F) f c c)
    = bigSep Finset.univ fun c : Dev nD => flowToks (F := F) f c (peer f c) := by
  unfold flowToks
  rw [BI.bigSep_sep',
    BI.bigSep_univ_equiv (peerE f) (fun c : Dev nD => (iprop(dutyTok ER (rcv 0 f c) 0 0 ∗ dutyTok ER (rcv 1 f c) 0 0) : sProp 𝕄)),
    ← BI.bigSep_sep']
  rfl

theorem flows_around : (bigSep Finset.univ fun c : Dev nD => flows fun f => flowToks (F := F) f c c)
    = bigSep Finset.univ fun c : Dev nD => flows fun f => flowToks (F := F) f c (peer f c) := by
  simp only [← flows_eq]
  rw [Pipeline.bigSep_univ_comm, Pipeline.bigSep_univ_comm (fun c f => flowToks (F := F) f c (peer f c))]
  exact BI.bigSep_congr fun f _ => flow_around f

theorem ticket_intro (c : Dev nD) (f : Fin 7) :
    iprop(flowToks (F := F) f c (peer f c)
        ∗ (cred (tallyAt (rcv 0 f c) () N) ∗ cred (tallyAt (rcv 1 f c) () N)))
      ⊢ (iprop(ticket (F := F) c 0 f ∗ ticket (F := F) c 1 f) : sProp 𝕄) := by
  unfold flowToks ticket
  iintro ⟨⟨⟨H0, H1⟩, ⟨H2, H3⟩⟩, ⟨H4, H5⟩⟩
  iframe

end Bsa
-- ==== Proof.Bsa.Launch.lean ====
/- The run of the whole program on the eight devices: from any memory, every execution ends, with the arguments
   unchanged, the result's array holding what the kernel computed, and every semaphore at zero. -/
module

public import proofs.«01_k».proof.Proof.Bsa.Region
public import proofs.«01_k».proof.Proof.Bsa.Deal

@[expose] public section

noncomputable section

namespace Bsa

open Idealize.SL Idealize.SL.RA Idealize.SL.BI Idealize.SL.BI.Laws Idealize.SL.ProofMode Idealize.SL.Sem
open scoped Idealize.SL.BI
open Idealize.SL.BI.BIBase
open Idealize.ShloMosaic Idealize.ShloMosaic.TcCoe
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (b : Loc nD τ sig) → Buf (Elt F) b) (ρ : Dev nD → PrngReg)

/-! ## The program as segments -/

/-- The buffers of the program itself, on each device. -/
def hbm : Finset (DevRef τ sig) := (StableHlo.tcRefs τ sig).filter fun b => ¬ b.isScoped

theorem hbm_split : hbm \ Pipeline.arrRefs (τ := τ) spec0 = restRefs := by decide
theorem arr_sub : Pipeline.arrRefs (τ := τ) spec0 ⊆ hbm := by decide

theorem unscoped_held (c : Dev nD) (W : Valuation τ sig (Elt F)) :
    (unscopedBufs c (fun b => W b) : sProp 𝕄) = StableHlo.held (c : Thread nD τ) hbm W := by
  unfold unscopedBufs StableHlo.held hbm StableHlo.tcRefs
  rw [Finset.filter_map, BI.bigSep_map]
  rfl

theorem unscoped_bar (c : Dev nD) : (unscopedSems0 c : sProp 𝕄) = semVal (bar c) 0 := by
  unfold unscopedSems0
  rw [show (Finset.univ.filter fun sm : SemLoc sig => ¬ sm.isScoped .tc) = {SemLoc.reg barS} from by decide,
    BI.bigSep_singleton]

theorem ops_sub : ∀ op ∈ (hostOps0 : List (HloOp τ sig (Elt F))), op.bufs ⊆ hbm := fun op h => by
  simp only [List.mem_cons, List.mem_nil_iff, or_false] at h
  rcases h with rfl | rfl | rfl | rfl
  · show ({Proc.devRef .tc main_arg2, Proc.devRef .tc main_v1} : Finset (DevRef τ sig)) ⊆ hbm; decide
  · show ({Proc.devRef .tc main_v1, Proc.devRef .tc main_v2} : Finset (DevRef τ sig)) ⊆ hbm; decide
  · show ({Proc.devRef .tc main_arg3, Proc.devRef .tc main_v3} : Finset (DevRef τ sig)) ⊆ hbm; decide
  · show ({Proc.devRef .tc main_v3, Proc.devRef .tc main_v4} : Finset (DevRef τ sig)) ⊆ hbm; decide

theorem ops_fresh : ∀ op ∈ (hostOps0 : List (HloOp τ sig (Elt F))), op.fresh = ∅ :=
  List.forall_iff_forall_mem.mp hostOps0_fresh

/-- What rides beside the buffers: the kernel's tickets, the generator, and what the device owes. -/
def R (c : Dev nD) : sProp 𝕄 :=
  iprop(Tk m c ∗ (∃ r, prngReg c r) ∗ ∃ W, owes (c : Thread nD τ) (owedL (owe0 c)) W)

/-- The host's operations before the kernel. -/
def host0 : Pipeline.HostSeg (Name := ℕ) (U := UU) (pcfgs (F := F)) defs₀ 𝒱₀ L lv :=
  Pipeline.HostSeg.ofOps _ _ _ _ _ hbm hostOps0 ops_sub ops_fresh (V₀ m) (R m)

def segs : List (Pipeline.Seg (pcfgs (F := F)) adm (pdats m) () defs₀ 𝒱₀ L lv) :=
  [.host (host0 m), .region (site m)]

theorem main_eq (c : Dev nD) : main (F := F) c = Pipeline.Seg.run (segs m) :=
  main_segs adm (pdats m) () 𝒱₀ L lv (host0 m) (site m) rfl c

theorem held_hbm (c : Dev nD) (W : Valuation τ sig (Elt F)) :
    (StableHlo.held (c : Thread nD τ) hbm W : sProp 𝕄)
      = iprop(StableHlo.held (c : Thread nD τ) (Pipeline.arrRefs (τ := τ) spec0) W ∗ StableHlo.held (c : Thread nD τ) restRefs W) := by
  rw [StableHlo.held_sub_split (c : Thread nD τ) arr_sub W, hbm_split]

theorem site_pre (c : Dev nD) :
    iprop(StableHlo.held (c : Thread nD τ) hbm (V₁ m c) ∗ R m c) ⊢ (site m).pre c := by
  show _ ⊢ iprop(StableHlo.held (c.tc : Thread nD τ) (Pipeline.arrRefs (τ := τ) spec0) (V₁ m c) ∗ (∃ r, prngReg c r)
    ∗ (StableHlo.held (c.tc : Thread nD τ) restRefs (V₁ m c) ∗ emp) ∗ Tk m c ∗ ∃ Wd, owes (c : Thread nD τ) (0 + owedL (owe0 c)) Wd)
  rw [held_hbm, zero_add]
  unfold R
  iintro ⟨⟨HA, HR⟩, HT, HP, HO⟩
  iframe

/-- What is left when the program ends. -/
abbrev Tₙ (c : Dev nD) : sProp 𝕄 := iprop(StableHlo.held (c : Thread nD τ) hbm (V₂ m c) ∗ semVal (bar c) 0)

theorem site_post (c : Dev nD) : (site m).post c
    ⊢ iprop(Tₙ m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) restRefs (V₂ m c) ∗ emp) ∗ Yk (F := F) c
    ∗ ∃ Wd, owes (c : Thread nD τ) (0 : CellTallies nD τ sig Unit) Wd) ⊢ _
  unfold Tₙ
  rw [held_hbm]
  unfold Yk
  iintro ⟨HA, -, ⟨HR, -⟩, HB, HO⟩
  iframe

/-! ## The launch -/

theorem disjoint_cells : Disjoint (barCells : Finset (GSem nD τ sig)) ownCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)

def u₀ : UU :=
  (initOf (Pipeline.cells (Pipeline.pin (pcfgs (F := F)) adm) cellOf_inj)
      (Pipeline.launchToks (Pipeline.pin (pcfgs (F := F)) adm) cellOf_inj),
    launchOf barCells ownCells allToks)

/-- The protocol's whole launch element, kept at one device until it is dealt. -/
def atZero (X : sProp 𝕄) (c : Dev nD) : sProp 𝕄 := if c = 0 then X else iprop(emp)

theorem bigSep_atZero (X : sProp 𝕄) : bigSep Finset.univ (atZero X) = X := by
  rw [bigSep_univ_at _ (0 : Dev nD), BI.bigSep_congr (s := Finset.univ.erase (0 : Dev nD))
    (Ψ := fun _ => (BI.emp : sProp 𝕄)) fun c hc => by
      unfold atZero; rw [if_neg (Finset.ne_of_mem_erase hc)]; rfl, BI.bigSep_emp_const]
  unfold atZero; rw [if_pos rfl]
  exact BI.equiv_iff.mp sep_emp

def G : Dev nD → sProp 𝕄 := atZero (BI.own (ER (launchOf barCells ownCells allToks)))

/-- A device's share of the protocol at launch. -/
def mine (c : Dev nD) : sProp 𝕄 :=
  iprop(atPos ER (bar c) 0 ∅ 0 ∗ (bigSep Finset.univ fun k => openTok ER (cell c k))
    ∗ barToks (F := F) (lft c) (rgt c) (chd c) ∗ flows fun f => flowToks (F := F) f c (peer f c))

/-- And the rest of what it holds at launch. -/
def bundle (c : Dev nD) : sProp 𝕄 :=
  iprop(StableHlo.held (c : Thread nD τ) hbm (V₀ m c) ∗ cred (tallyAt (bar c) () 3)
    ∗ (flows fun f => iprop(cred (tallyAt (rcv 0 f c) () N) ∗ cred (tallyAt (rcv 1 f c) () N)))
    ∗ owes (c : Thread nD τ) (owedL (owe0 c)) ∅ ∗ ∃ r, prngReg c r)

abbrev T₀ (c : Dev nD) : sProp 𝕄 := iprop(StableHlo.held (c : Thread nD τ) hbm (V₀ m c) ∗ R m c)

theorem start_intro (κ : GSem nD τ sig → ℕ) (c : Dev nD) :
    iprop(recs (AA m) κ ∗ (mine (F := F) c ∗ bundle m c)) ⊢ (T₀ m c : sProp 𝕄) := by
  have ht := flows_merge _ _ (fun f => iprop(ticket (F := F) c 0 f ∗ ticket (F := F) c 1 f)) (ticket_intro c)
  unfold mine bundle T₀ R Tk barKit barToks
  iintro ⟨#HR, ⟨HA, HO, ⟨H0, H1, H2⟩, HF⟩, ⟨HH, HC, HN, HW, HP⟩⟩
  ihave HT := ht $$ [HF HN]
  · iframe
  iframe
  isplitr [HW]
  · iexists κ
    iframe
    iexact HR
  iexists ∅
  iexact HW

theorem dev_launch (c : Dev nD) :
    iprop(unscopedBufs c (fun b => m ((c : Thread nD τ).loc b)) ∗ unscopedSems0 c
        ∗ owes (c : Thread nD τ) (owedL (owe0 c)) ∅ ∗ Pipeline.launchCred (fun d => owedL (owe0 d)) c
        ∗ prngReg c (ρ c) ∗ G (F := F) c)
      ⊢ (iprop(bundle m c ∗ (semVal (bar c) 0 ∗ G (F := F) c)) : sProp 𝕄) := by
  rw [show unscopedBufs c (fun b => m ((c : Thread nD τ).loc b)) = StableHlo.held (c : Thread nD τ) hbm (V₀ m c)
    from unscoped_held c (V₀ m c), unscoped_bar]
  have hc := credits (F := F) c
  unfold bundle
  iintro ⟨HH, HS, HO, HC, HP, HG⟩
  ihave HC := hc $$ HC
  icases HC with ⟨H3, HN⟩
  iframe
  iexists (ρ c)
  iexact HP

theorem init :
    iprop((bigSep Finset.univ fun c : Dev nD => iprop(unscopedBufs c (fun b => m ((c : Thread nD τ).loc b)) ∗ unscopedSems0 c
          ∗ owes (c : Thread nD τ) (owedL (owe0 c)) ∅ ∗ Pipeline.launchCred (fun d => owedL (owe0 d)) c
          ∗ prngReg c (ρ c) ∗ G (F := F) c)) ∗ levAts L lv)
      ⊢ (|={Set.univ}=> bigSep Finset.univ (T₀ m) : sProp 𝕄) := by
  have h1 : (bigSep Finset.univ fun c : Dev nD => iprop(unscopedBufs c (fun b => m ((c : Thread nD τ).loc b)) ∗ unscopedSems0 c
          ∗ owes (c : Thread nD τ) (owedL (owe0 c)) ∅ ∗ Pipeline.launchCred (fun d => owedL (owe0 d)) c
          ∗ prngReg c (ρ c) ∗ G (F := F) c))
      ⊢ (iprop((bigSep Finset.univ fun c => bundle m c) ∗ ((bigSep Finset.univ fun c => semVal (bar c) 0)
          ∗ bigSep Finset.univ (G (F := F)))) : sProp 𝕄) := by
    rw [← BI.bigSep_sep', ← BI.bigSep_sep']
    exact BI.bigSep_mono fun c _ => dev_launch m ρ c
  have hv : bigSep Finset.univ (fun c : Dev nD => (semVal (bar c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (bar c) 0 ∅ 0 : sProp 𝕄)) :=
    Entails.of_eq (bigSep_map (s := Finset.univ) barEmb (Φ := fun g : GSem nD τ sig => (atPos ER g 0 ∅ 0 : sProp 𝕄)))
  have hop : bigSep ownCells (fun g => (openTok ER g : sProp 𝕄))
      ⊢ bigSep Finset.univ (fun c : Dev nD => bigSep Finset.univ fun k => openTok ER (cell c k)) :=
    Entails.of_eq (by rw [bigSep_map, BI.bigSep_univ_prod]; rfl)
  have htk : bigSep allToks (fun x => (dutyTok ER x.1 x.2.1 x.2.2 : sProp 𝕄))
      ⊢ iprop((bigSep Finset.univ fun c : Dev nD => barToks (F := F) (lft c) (rgt c) (chd c))
        ∗ (bigSep Finset.univ fun c : Dev nD => flows fun f => flowToks (F := F) f c (peer f c))) :=
    Entails.of_eq (by rw [toks_eq, bar_around, flows_around])
  have hG : bigSep Finset.univ (G (F := F)) ⊢ (BI.own (ER (launchOf barCells ownCells allToks)) : sProp 𝕄) :=
    Entails.of_eq (bigSep_atZero _)
  have hmine : iprop((bigSep Finset.univ fun c : Dev nD => atPos ER (bar c) 0 ∅ 0)
        ∗ (bigSep Finset.univ fun c : Dev nD => bigSep Finset.univ fun k => openTok ER (cell c k))
        ∗ (bigSep Finset.univ fun c : Dev nD => barToks (F := F) (lft c) (rgt c) (chd c))
        ∗ (bigSep Finset.univ fun c : Dev nD => flows fun f => flowToks (F := F) f c (peer f c)))
      ⊢ (bigSep Finset.univ (mine (F := F)) : sProp 𝕄) :=
    Entails.of_eq (by rw [← BI.bigSep_sep', ← BI.bigSep_sep', ← BI.bigSep_sep']; rfl)
  have hall (κ : GSem nD τ sig → ℕ) : iprop(recs (AA m) κ ∗ ((bigSep Finset.univ (mine (F := F))) ∗ bigSep Finset.univ fun c => bundle m c))
      ⊢ (bigSep Finset.univ (T₀ m) : sProp 𝕄) := by
    rw [← BI.bigSep_sep']
    exact BI.bigSep_with_persistent fun c _ => start_intro m κ c
  have hf := Rounds.fund_launch ER (sched (AA m)) disjoint_cells (fun g _ h => h) allToks (Es := Set.univ)
  iintro ⟨H, #HL⟩
  ihave H := h1 $$ H
  icases H with ⟨HB, HV, HG⟩
  ihave HV := hv $$ HV
  ihave HG := hG $$ HG
  imod hf $$ [HV HG] with ⟨%κ, -, #HI, #HR, HA, HO, HT⟩
  · iframe
  imodintro
  ihave HA := hat $$ HA
  ihave HO := hop $$ HO
  ihave HT := htk $$ HT
  icases HT with ⟨HT1, HT2⟩
  have ha := hall κ
  iapply ha
  isplitr
  · unfold recs
    isplitr
    · iexact HI
    isplitr
    · iexact HR
    iexact HL
  isplitr [HB]
  · iapply hmine
    iframe
  iexact HB

end Bsa
-- ==== Proof.Bsa.Main.lean ====
/- The run itself: from any memory with every counter at zero, every execution of the program on the eight devices
   ends, and what the arguments, the result and the counters then hold. -/
module

public import proofs.«01_k».proof.Proof.Bsa.Launch

@[expose] public section

noncomputable section

namespace Bsa

open Idealize.SL Idealize.SL.RA Idealize.SL.BI Idealize.SL.BI.Laws Idealize.SL.ProofMode Idealize.SL.Sem
open scoped Idealize.SL.BI
open Idealize.SL.BI.BIBase
open Idealize.ShloMosaic Idealize.ShloMosaic.TcCoe
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (b : Loc nD τ sig) → Buf (Elt F) b) (ρ : Dev nD → PrngReg)

theorem unscoped_eq : ∀ sm : SemLoc sig, sm.isScoped .tc = false → sm = .reg barS := by decide

/-- One device's hold on a buffer of the program. -/
def pt (c : Dev nD) (W : Valuation τ sig (Elt F)) (b : Ref sig .tc) : sProp 𝕄 :=
  ((c : Thread nD τ).loc b) ↦{fullShare} (W (Proc.devRef .tc b))

theorem held_list (c : Dev nD) (W : Valuation τ sig (Elt F)) :
    (StableHlo.held (c : Thread nD τ) hbm W : sProp 𝕄)
      = iprop(pt c W main_arg0 ∗ pt c W main_arg1 ∗ pt c W main_arg2 ∗ pt c W main_arg3 ∗ pt c W main_arg4
          ∗ pt c W main_v1 ∗ pt c W main_v2 ∗ pt c W main_v3 ∗ pt c W main_v4 ∗ pt c W main_v5) := by
  unfold StableHlo.held
  rw [bigSep_eq_bigSepL_of_eq [Proc.devRef .tc main_arg0, Proc.devRef .tc main_arg1, Proc.devRef .tc main_arg2,
    Proc.devRef .tc main_arg3, Proc.devRef .tc main_arg4, Proc.devRef .tc main_v1, Proc.devRef .tc main_v2,
    Proc.devRef .tc main_v3, Proc.devRef .tc main_v4, Proc.devRef .tc main_v5] (by decide) (by decide)]
  rfl

/-- What the end of the program says of device `c`. -/
def endOf (c : Dev nD) (s : MemSt nD τ sig (Elt F)) : Prop :=
  (s.mem ((c : Thread nD τ).loc main_arg0) = V₂ m c main_arg0
    ∧ s.mem ((c : Thread nD τ).loc main_arg1) = V₂ m c main_arg1
    ∧ s.mem ((c : Thread nD τ).loc main_arg2) = V₂ m c main_arg2
    ∧ s.mem ((c : Thread nD τ).loc main_arg3) = V₂ m c main_arg3
    ∧ s.mem ((c : Thread nD τ).loc main_arg4) = V₂ m c main_arg4
    ∧ s.mem ((c : Thread nD τ).loc main_v5) = V₂ m c main_v5)
  ∧ s.sem (bar c) = 0

theorem end_read (c : Dev nD) (s' : Phys nD τ sig (Elt F)) :
    (iprop(Tₙ m c ∗ SI s') : sProp 𝕄) ⊢ |={Set.univ}=> iprop(⌜endOf m c s'.mem⌝ ∗ SI s') := by
  unfold Tₙ
  rw [held_list]
  unfold pt
  iintro ⟨⟨⟨H0, H1, H2, H3, H4, -, -, -, -, H5⟩, HB⟩, HSI⟩
  icombine HSI H0 gives %h0
  icombine HSI H1 gives %h1
  icombine HSI H2 gives %h2
  icombine HSI H3 gives %h3
  icombine HSI H4 gives %h4
  icombine HSI H5 gives %h5
  icombine HSI HB gives %hb
  imodintro
  isplitr
  · ipureintro
    exact ⟨⟨Buf.eq_of_forall_mem_univ h0, Buf.eq_of_forall_mem_univ h1, Buf.eq_of_forall_mem_univ h2,
      Buf.eq_of_forall_mem_univ h3, Buf.eq_of_forall_mem_univ h4, Buf.eq_of_forall_mem_univ h5⟩, by simpa using hb⟩
  iexact HSI

theorem arg_end (c : Dev nD) :
    V₂ m c main_arg0 = m ((c : Thread nD τ).loc main_arg0) ∧ V₂ m c main_arg1 = m ((c : Thread nD τ).loc main_arg1)
    ∧ V₂ m c main_arg2 = m ((c : Thread nD τ).loc main_arg2) ∧ V₂ m c main_arg3 = m ((c : Thread nD τ).loc main_arg3)
    ∧ V₂ m c main_arg4 = m ((c : Thread nD τ).loc main_arg4) :=
  ⟨(V₂_of_ne m c (Proc.devRef .tc main_arg0) (by decide)).trans (V_main_arg0 m c),
    (V₂_of_ne m c (Proc.devRef .tc main_arg1) (by decide)).trans (V_main_arg1 m c),
    (V₂_of_ne m c (Proc.devRef .tc main_arg2) (by decide)).trans (V_main_arg2 m c),
    (V₂_of_ne m c (Proc.devRef .tc main_arg3) (by decide)).trans (V_main_arg3 m c),
    (V₂_of_ne m c (Proc.devRef .tc main_arg4) (by decide)).trans (V_main_arg4 m c)⟩

/-- The end, in terms of the memory at launch. -/
def finalOf (s : MemSt nD τ sig (Elt F)) : Prop :=
  (∀ c : Dev nD, s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_v5) = (dat0 m c).arrAt 5 cfg0.N)
  ∧ s.sem = fun _ => 0

theorem final_of (s : MemSt nD τ sig (Elt F)) (h : ∀ c, endOf m c s)
    (hs : ∀ g : GSem nD τ sig, (g.1.2 ≠ .tc ∨ g.2.isScoped .tc = true) → s.sem g = 0) : finalOf m s :=
  ⟨fun c => by
      obtain ⟨⟨h0, h1, h2, h3, h4, h5⟩, -⟩ := h c
      obtain ⟨e0, e1, e2, e3, e4⟩ := arg_end m c
      exact ⟨h0.trans e0, h1.trans e1, h2.trans e2, h3.trans e3, h4.trans e4, h5.trans (V₂_out m c)⟩,
    sem_eq_zero hs fun c sm hsm => by
      obtain rfl := unscoped_eq sm hsm
      exact (h c).2⟩

set_option backward.isDefEq.respectTransparency.types false in
/-- From any memory with every counter at zero, every execution of the program on the eight devices ends; the
    arguments are then unchanged, each device's result is what its kernel computed, and every counter is at zero. -/
theorem run_main : θ_run (defs (F := F)) (onTc (τ := τ) (main (F := F))) ⟨m, fun _ => 0, ρ⟩ (fun r => finalOf m r.2) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun d => owedL (owe0 d)) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_atZero]; iexact HX)
    (T₀ := T₀ m) (Tₙ := Tₙ m)
    (hch := ⟨fun _ => .rfl, site_pre m, site_post m⟩)
    (hinit := init m ρ)
    (QY := endOf m)
    (hfin := end_read m)
    (hQ := final_of m)

end Bsa
-- ==== Proof.Bsa.Frames.lean ====
/- The three frames: each program ends, faultless, with its arguments as it found them and every counter at zero. -/
module

public import proofs.«01_k».proof.Proof.Bsa.Main
public import proofs.«01_k».proof.Defs
public import proofs.«01_k».proof.Proof.Gen.Kernel
public import proofs.«01_k».proof.Proof.Gen.ReferenceIdeal.Run

@[expose] public section

noncomputable section

namespace Bsa

open Idealize.SL Idealize.SL.RA Idealize.SL.BI Idealize.SL.BI.Laws Idealize.SL.ProofMode Idealize.SL.Sem
open scoped Idealize.SL.BI
open Idealize.SL.BI.BIBase
open Idealize.ShloMosaic Idealize.ShloMosaic.TcCoe
open Idealize.ShloMosaic.Rounds
open Idealize.ShloMosaic.Pipeline (Dat Cfg BodyObligation cellOf)
open Cert.KernelIdeal Cert.KernelIdeal.Gen

/-! ## The two kernels are one text -/

theorem same_main : (@Cert.Kernel.main Bits _ Cert.Kernel.Gen.facts) = (@Cert.KernelIdeal.main Bits _ Cert.KernelIdeal.Gen.facts) := rfl
set_option maxRecDepth 100000 in
theorem same_defs₀ : (@Cert.Kernel.defs₀ Bits _ Cert.Kernel.Gen.facts) = (@Cert.KernelIdeal.defs₀ Bits _ Cert.KernelIdeal.Gen.facts) := by
  unfold Cert.Kernel.defs₀ Cert.KernelIdeal.defs₀
  refine congrArg Defs.onTc (funext fun l => funext fun x => ?_)
  match l, x with
  | 0, (t, s) => rfl
  | ⟨_ + 1, h⟩, _ => exact absurd h (Nat.not_lt.2 (Nat.le_add_left _ _))
theorem same_defs : (@Cert.Kernel.defs Bits _ Cert.Kernel.Gen.facts) = (@Cert.KernelIdeal.defs Bits _ Cert.KernelIdeal.Gen.facts) := by
  unfold Cert.Kernel.defs Cert.KernelIdeal.defs
  exact congrArg _ same_defs₀

/-! ## The frames -/

/-- The end, read for the frame. -/
theorem frame_of {F : FTy → Type} (m : (b : Loc nD τ sig) → Buf (Elt F) b) [FloatOps F] (s : MemSt nD τ sig (Elt F)) (h : finalOf m s) :
    (∀ c : Dev nD, s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    ∧ s.sem = fun _ => 0 :=
  ⟨fun c => ⟨(h.1 c).1, (h.1 c).2.1, (h.1 c).2.2.1, (h.1 c).2.2.2.1, (h.1 c).2.2.2.2.1⟩, h.2⟩

/-- The kernel over the extended reals. -/
theorem frame_kernelIdeal : Cert.quiescent_KernelIdeal (hKernelIdeal := Cert.KernelIdeal.Gen.facts) := fun m ρ _ =>
  (θ_run (Cert.KernelIdeal.defs (F := Ideal)) _ _).mono (fun r h => frame_of m r.2 h) (run_main (F := Ideal) m ρ)

/-- The kernel at the machine's own floats. -/
theorem frame_kernel : Cert.quiescent_Kernel (hKernel := Cert.Kernel.Gen.facts) := by
  intro m ρ _
  rw [same_main, same_defs]
  exact (θ_run (Cert.KernelIdeal.defs (F := Bits)) _ _).mono (fun r h => frame_of m r.2 h) (run_main (F := Bits) m ρ)

/-- The reference. -/
theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

end Bsa
-- ==== Proof.Bsa.Soft.lean ====
/- The running softmax over the extended reals: scores that are real, values that need not be. Whatever real number
   the exponentials are taken against, numerator over denominator is the same weighted sum. -/
module

public import Idealize.ShloMosaic.PureOps.Ideal

@[expose] public section

noncomputable section

namespace Bsa

open Idealize.ShloMosaic

/-! ## Real extended reals -/

/-- An extended real that is a real number. -/
def IsReal (x : EReal) : Prop := ∃ r : ℝ, x = (r : EReal)

theorem isReal_coe (r : ℝ) : IsReal (r : EReal) := ⟨r, rfl⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.max {x y : EReal} (hx : IsReal x) (hy : IsReal y) : IsReal (max x y) := by
  rcases max_choice x y with h | h <;> rw [h] <;> assumption
theorem coe_sum {J : Type} (s : Finset J) (f : J → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]
theorem isReal_sum {J : Type} (s : Finset J) (f : J → EReal) (h : ∀ j, IsReal (f j)) : IsReal (∑ j ∈ s, f j) := by
  choose g hg using h
  exact ⟨∑ j ∈ s, g j, by rw [coe_sum]; exact Finset.sum_congr rfl fun j _ => hg j⟩
/-- The largest of some real numbers, started at minus infinity, is a real number. -/
theorem isReal_fold_max {J : Type} (s : Finset J) (hs : s.Nonempty) (f : J → EReal) (h : ∀ j, IsReal (f j)) :
    IsReal (s.fold max ⊥ f) := by
  classical
  induction hs using Finset.Nonempty.cons_induction with
  | singleton a => rw [Finset.fold_singleton, max_bot_right]; exact h a
  | cons a s ha _ ih => rw [Finset.fold_cons]; exact (h a).max ih
/-- And started at a real number, over whatever set. -/
theorem isReal_fold_max' {J : Type} (s : Finset J) (f : J → EReal) (b : EReal) (hb : IsReal b) (h : ∀ j, IsReal (f j)) :
    IsReal (s.fold max b f) := by
  classical
  induction s using Finset.induction_on with
  | empty => rwa [Finset.fold_empty]
  | insert a s ha ih => rw [Finset.fold_insert ha]; exact (h a).max ih

theorem add_mul_coe (x y : EReal) {c : ℝ} (hc : 0 ≤ c) : (x + y) * (c : EReal) = x * c + y * c := by
  rw [mul_comm, EReal.left_distrib_of_nonneg_of_ne_top (EReal.coe_nonneg.2 hc) (EReal.coe_ne_top c), mul_comm, mul_comm y]
theorem sum_mul_coe {J : Type} (s : Finset J) (f : J → EReal) {c : ℝ} (hc : 0 ≤ c) :
    (∑ j ∈ s, f j) * (c : EReal) = ∑ j ∈ s, f j * (c : EReal) := by
  classical
  induction s using Finset.induction_on with
  | empty => simp
  | insert a s ha ih => rw [Finset.sum_insert ha, Finset.sum_insert ha, add_mul_coe _ _ hc, ih]
theorem listSum_mul_coe (l : List EReal) {c : ℝ} (hc : 0 ≤ c) : l.sum * (c : EReal) = (l.map (· * (c : EReal))).sum := by
  induction l with
  | nil => simp
  | cons a l ih => rw [List.sum_cons, List.map_cons, List.sum_cons, add_mul_coe _ _ hc, ih]
theorem exp_sub_coe (a b : ℝ) : Ideal.exp ((a : EReal) - (b : EReal)) = ((Real.exp (a - b) : ℝ) : EReal) := by
  rw [← EReal.coe_sub]; rfl

/-! ## The softmax's weighted sum -/

section Weighted

variable {J : Type} [Fintype J] (s : J → ℝ) (v : J → EReal)

/-- The values weighted by the softmax of the scores. -/
def weighted : EReal := ∑ j, ((Real.exp (s j) / ∑ i, Real.exp (s i) : ℝ) : EReal) * v j

theorem sum_exp_shift (M : ℝ) : (∑ i, Real.exp (s i - M)) = (∑ i, Real.exp (s i)) * Real.exp (-M) := by
  rw [Finset.sum_mul]
  exact Finset.sum_congr rfl fun i _ => by rw [sub_eq_add_neg, Real.exp_add]
theorem sum_exp_pos [Nonempty J] (M : ℝ) : 0 < ∑ i, Real.exp (s i - M) :=
  Finset.sum_pos (fun _ _ => Real.exp_pos _) Finset.univ_nonempty
theorem weight_shift [Nonempty J] (M : ℝ) (j : J) :
    Real.exp (s j - M) * (1 / ∑ i, Real.exp (s i - M)) = Real.exp (s j) / ∑ i, Real.exp (s i) := by
  rw [sum_exp_shift, sub_eq_add_neg, Real.exp_add, mul_one_div]
  exact mul_div_mul_right _ _ (Real.exp_pos _).ne'

/-- Numerator over denominator, both against any real number `M`. -/
theorem quot_eq [Nonempty J] (M : ℝ) :
    Ideal.div (∑ j, ((Real.exp (s j - M) : ℝ) : EReal) * v j) ((∑ j, Real.exp (s j - M) : ℝ) : EReal) = weighted s v := by
  have hp := sum_exp_pos s M
  rw [Ideal.div_coe hp.ne', sum_mul_coe _ _ (one_div_nonneg.2 hp.le)]
  refine Finset.sum_congr rfl fun j _ => ?_
  rw [mul_right_comm, ← EReal.coe_mul, weight_shift]

/-- Each weight divided first, then summed against the values. -/
theorem weights_eq [Nonempty J] (M : ℝ) :
    ∑ j, v j * Ideal.div (Ideal.exp ((s j : EReal) - (M : EReal))) (∑ i, Ideal.exp ((s i : EReal) - (M : EReal)))
      = weighted s v := by
  have hp := sum_exp_pos s M
  refine Finset.sum_congr rfl fun j _ => ?_
  simp only [exp_sub_coe]
  rw [← coe_sum, Ideal.div_coe hp.ne', ← EReal.coe_mul, weight_shift, mul_comm]

/-- The weighted sum over positions named otherwise. -/
theorem weighted_equiv {I : Type} [Fintype I] (e : I ≃ J) : weighted (fun i => s (e i)) (fun i => v (e i)) = weighted s v := by
  unfold weighted
  rw [e.sum_comp (fun i => Real.exp (s i))]
  exact e.sum_comp (fun j => ((Real.exp (s j) / ∑ i, Real.exp (s i) : ℝ) : EReal) * v j)

end Weighted

/-! ## The running state -/

section Running

variable {O K D : Type} [Fintype K] (s : O → K → ℝ) (v : O → K → D → EReal)

/-- What a row's running maximum, denominator and numerators are once the chunks of `l` are in: against some real
    number, the sums over those chunks. -/
def After (l : List O) (m den : EReal) (ctx : D → EReal) : Prop :=
  ∃ M : ℝ, m = (M : EReal) ∧ den = (((l.map fun o => ∑ k, Real.exp (s o k - M)).sum : ℝ) : EReal)
    ∧ ∀ d, ctx d = (l.map fun o => ∑ k, ((Real.exp (s o k - M) : ℝ) : EReal) * v o k d).sum

theorem after_nil (M : ℝ) : After s v [] (M : EReal) 0 (fun _ => 0) := ⟨M, rfl, by simp, fun _ => by simp⟩

theorem rescale_real (M M' : ℝ) (o : O) :
    (∑ k, Real.exp (s o k - M)) * Real.exp (M - M') = ∑ k, Real.exp (s o k - M') := by
  rw [Finset.sum_mul]
  exact Finset.sum_congr rfl fun k _ => by rw [← Real.exp_add]; congr 1; ring
theorem rescale_val (M M' : ℝ) (o : O) (d : D) :
    (∑ k, ((Real.exp (s o k - M) : ℝ) : EReal) * v o k d) * ((Real.exp (M - M') : ℝ) : EReal)
      = ∑ k, ((Real.exp (s o k - M') : ℝ) : EReal) * v o k d := by
  rw [sum_mul_coe _ _ (Real.exp_pos _).le]
  refine Finset.sum_congr rfl fun k _ => ?_
  rw [mul_right_comm, ← EReal.coe_mul, ← Real.exp_add]
  congr 3; ring

theorem listSum_mul (l : List ℝ) (c : ℝ) : l.sum * c = (l.map (· * c)).sum := by
  induction l with
  | nil => simp
  | cons a l ih => rw [List.sum_cons, List.map_cons, List.sum_cons, add_mul, ih]

/-- One more chunk. -/
theorem after_step (l : List O) (o : O) (m den : EReal) (ctx : D → EReal) (h : After s v l m den ctx) (m' : EReal) (hm : IsReal m') :
    After s v (l ++ [o]) m' (den * Ideal.exp (m - m') + ∑ k, Ideal.exp ((s o k : EReal) - m'))
      (fun d => ctx d * Ideal.exp (m - m') + ∑ k, Ideal.exp ((s o k : EReal) - m') * v o k d) := by
  obtain ⟨M, rfl, rfl, hc⟩ := h
  obtain ⟨M', rfl⟩ := hm
  refine ⟨M', rfl, ?_, fun d => ?_⟩
  · simp only [exp_sub_coe]
    rw [← coe_sum, ← EReal.coe_mul, ← EReal.coe_add, listSum_mul, List.map_map, List.map_append, List.sum_append,
      List.map_singleton, List.sum_singleton]
    refine congrArg (fun x : ℝ => ((x + _ : ℝ) : EReal)) (congrArg List.sum (List.map_congr_left fun o _ => ?_))
    exact rescale_real s M M' o
  · simp only [exp_sub_coe]
    rw [hc, listSum_mul_coe _ (Real.exp_pos _).le, List.map_map, List.map_append, List.sum_append,
      List.map_singleton, List.sum_singleton]
    refine congrArg (fun x : EReal => x + _) (congrArg List.sum (List.map_congr_left fun o _ => ?_))
    exact rescale_val s v M M' o d

/-- Once every chunk is in, in whatever order, the quotient is the softmax's weighted sum. -/
theorem after_all [Fintype O] [Nonempty O] [Nonempty K] (n : ℕ) (e : Fin n ≃ O) (m den : EReal) (ctx : D → EReal)
    (h : After s v (List.ofFn e) m den ctx) (d : D) :
    Ideal.div (ctx d) den = weighted (fun p : O × K => s p.1 p.2) (fun p => v p.1 p.2 d) := by
  obtain ⟨M, -, rfl, hc⟩ := h
  rw [hc, List.map_ofFn, List.map_ofFn, List.sum_ofFn, List.sum_ofFn, ← quot_eq _ _ M, Fintype.sum_prod_type, Fintype.sum_prod_type]
  have h1 := e.sum_comp (fun o => ∑ k, Real.exp (s o k - M))
  have h2 := e.sum_comp (fun o => ∑ k, ((Real.exp (s o k - M) : ℝ) : EReal) * v o k d)
  exact congrArg₂ _ h2 (congrArg _ h1)

end Running

end Bsa

end
-- ==== Proof.Bsa.RowValue.lean ====
/- One step of the running softmax, the scores and the output rows of the kernel, read at an index over the extended
   reals. -/
module

public import proofs.«01_k».proof.Proof.Bsa.Vals
public import proofs.«01_k».proof.Proof.Bsa.Soft
public import Idealize.ShloMosaic.Lib.Pointwise

@[expose] public section

set_option maxRecDepth 16384

noncomputable section

namespace Bsa

open Idealize.ShloMosaic Cert.KernelIdeal Cert.KernelIdeal.Gen

/-- Column `64 h + d`: coordinate `d` of head `h`. -/
def col (h : Fin 4) (d : Fin 64) : Fin 256 := ⟨64 * h.val + d.val, by omega⟩
/-- Row `256 b + r`: row `r` of batch entry `b`. -/
def stk (b : Fin 2) (r : Fin 256) : Fin 512 := ⟨256 * b.val + r.val, by omega⟩

theorem neg_inf : Ideal.ofBits .f32 0xFF800000#32 = ⊥ := by
  simp [Ideal.ofBits, Ideal.ieee]

/-- A sum over the columns, head by head. -/
theorem sum_cols (f : Fin 256 → EReal) : ∑ n, f n = ∑ h : Fin 4, ∑ d : Fin 64, f (col h d) := by
  rw [← Fintype.sum_prod_type', ← (finProdFinEquiv (m := 4) (n := 64)).sum_comp f]
  exact Fintype.sum_congr _ _ fun p => congrArg f (Fin.ext (by
    show p.2.val + 64 * p.1.val = 64 * p.1.val + p.2.val; omega))

theorem maxRow_apply (m : FVec Ideal S256x1 .f32) (s : FVec Ideal S256x256 .f32) (r : Fin 256) :
    maxRow m s (ix2 r 0) = max (m (ix2 r 0)) (Finset.univ.fold max ⊥ fun k : Fin 256 => s (ix2 r k)) := by
  pointwise [maxRow]
  rw [neg_inf]

theorem rowStep_den (h : Fin 4) (s : FVec Ideal S256x256 .f32) (vc : FVec Ideal S256x256 .bf16) (st : Row Ideal) (r : Fin 256) :
    (rowStep h s vc st).2.1 (ix2 r 0) = st.2.1 (ix2 r 0) * Ideal.exp (st.1 (ix2 r 0) - maxRow st.1 s (ix2 r 0))
      + ∑ k : Fin 256, Ideal.exp (s (ix2 r k) - maxRow st.1 s (ix2 r 0)) := by
  pointwise [rowStep, expRow]

theorem rowStep_ctx (h : Fin 4) (s : FVec Ideal S256x256 .f32) (vc : FVec Ideal S256x256 .bf16) (st : Row Ideal) (r : Fin 256) (d : Fin 64) :
    (rowStep h s vc st).2.2 (ix2 r d) = st.2.2 (ix2 r d) * Ideal.exp (st.1 (ix2 r 0) - maxRow st.1 s (ix2 r 0))
      + ∑ k : Fin 256, Ideal.exp (s (ix2 r k) - maxRow st.1 s (ix2 r 0)) * vc (ix2 k (col h d)) := by
  pointwise [rowStep, expRow, col]

theorem queries_apply (x : Vec Ideal S2x256x512 .f32) (wq : Vec Ideal S512x256 .f32) (b : Fin 2) (r : Fin 256) (n : Fin 256) :
    queries x wq (ix2 (stk b r) n) = ∑ k : Fin 512, x (ix3 b r k) * wq (ix2 k n) := by
  pointwise [queries, stk]

theorem scores_apply (b : Fin 2) (h : Fin 4) (mask : IVec S256x256 1) (q : FVec Ideal S512x256 .f32)
    (kc : FVec Ideal S256x256 .bf16) (r k : Fin 256) :
    scores b h mask q kc (ix2 r k)
      = if mask (ix2 r k) = 1#1 then (∑ d : Fin 64, q (ix2 (stk b r) (col h d)) * kc (ix2 k (col h d))) * Ideal.ofBits .f32 0x3E000000#32
        else Ideal.ofBits .f32 0xCE6E6B28#32 := by
  pointwise [scores, stk, col]
  rfl

/-- Four blocks side by side, read at a column. -/
theorem ladder (g : Fin 4 → Fin 64 → EReal) (h : Fin 4) (d : Fin 64) (n : Fin 256) (e : n.val = 64 * h.val + d.val) :
    (if h0 : n.val < 64 then g 0 ⟨n.val, h0⟩
      else if h1 : n.val - 64 < 64 then g 1 ⟨n.val - 64, h1⟩
      else if h2 : n.val - 64 - 64 < 64 then g 2 ⟨n.val - 64 - 64, h2⟩
      else g 3 ⟨n.val - 64 - 64 - 64, by have := n.isLt; omega⟩) = g h d := by
  have hd := d.isLt
  obtain ⟨h, hh⟩ := h
  change n.val = 64 * h + d.val at e
  interval_cases h <;> split_ifs <;> first
    | omega
    | exact congrArg (g _) (Fin.ext (by dsimp only; omega))

theorem outRows_apply (st : Fin 4 → Row Ideal) (wo : Vec Ideal S256x512 .f32) (r : Fin 256) (n : Fin 512) :
    outRows st wo (ix3 0 r n) = ∑ h : Fin 4, ∑ d : Fin 64,
      Ideal.div ((st h).2.2 (ix2 r d)) ((st h).2.1 (ix2 r 0)) * wo (ix2 (col h d) n) := by
  pointwise [outRows, quotRow]
  rw [sum_cols]
  refine Finset.sum_congr rfl fun h _ => Finset.sum_congr rfl fun d _ => congrArg (· * _) ?_
  exact ladder (fun h d => Ideal.div ((st h).2.2 (ix2 r d)) ((st h).2.1 (ix2 r 0))) h d (col h d) rfl

end Bsa

end
-- ==== Proof.Bsa.Whole.lean ====
/- The whole windows: what the kernel reads of each operand is the operand's array, and the array of the result ends
   as what the kernel computed. -/
module

public import proofs.«01_k».proof.Proof.Bsa.Main
public import proofs.«01_k».proof.Proof.Bsa.RowValue
public import Idealize.ShloMosaic.Lib.StableHlo.RunRead

@[expose] public section

set_option maxRecDepth 16384

noncomputable section

namespace Bsa

open Idealize.ShloMosaic Idealize.ShloMosaic.TcCoe
open Cert.KernelIdeal Cert.KernelIdeal.Gen

section Windows

variable {F : FTy → Type} [FloatOps F] (m : (b : Loc nD τ sig) → Buf (Elt F) b) (c : Dev nD)

/-- A window's one block is its whole array: block coordinates are array coordinates. -/
theorem emb0 (i : S2x256x512.Idx) : (win0_0.blk t0_0).view.emb i = i := by
  funext a; apply Fin.ext; fin_cases a <;> exact (Nat.zero_add _).trans (Nat.one_mul _)
theorem emb1 (i : S512x256.Idx) : (win0_1.blk t0_0).view.emb i = i := by
  funext a; apply Fin.ext; fin_cases a <;> exact (Nat.zero_add _).trans (Nat.one_mul _)
theorem emb2 (i : S2x256x256.Idx) : (win0_2.blk t0_0).view.emb i = i := by
  funext a; apply Fin.ext; fin_cases a <;> exact (Nat.zero_add _).trans (Nat.one_mul _)
theorem emb3 (i : S2x256x256.Idx) : (win0_3.blk t0_0).view.emb i = i := by
  funext a; apply Fin.ext; fin_cases a <;> exact (Nat.zero_add _).trans (Nat.one_mul _)
theorem emb4 (i : S256x512.Idx) : (win0_4.blk t0_0).view.emb i = i := by
  funext a; apply Fin.ext; fin_cases a <;> exact (Nat.zero_add _).trans (Nat.one_mul _)
theorem emb5 (i : S2x256x512.Idx) : (win0_5.blk t0_0).view.emb i = i := by
  funext a; apply Fin.ext; fin_cases a <;> exact (Nat.zero_add _).trans (Nat.one_mul _)

theorem xB_eq : xB m c = m ((c : Thread nD τ).loc main_arg0) :=
  (funext fun i => congrArg (V₁ m c (Proc.devRef .tc main_arg0)) (emb0 i)).trans (V_main_arg0 m c)
theorem wqB_eq : wqB m c = m ((c : Thread nD τ).loc main_arg1) :=
  (funext fun i => congrArg (V₁ m c (Proc.devRef .tc main_arg1)) (emb1 i)).trans (V_main_arg1 m c)
theorem woB_eq : woB m c = m ((c : Thread nD τ).loc main_arg4) :=
  (funext fun i => congrArg (V₁ m c (Proc.devRef .tc main_arg4)) (emb4 i)).trans (V_main_arg4 m c)

/-- K as the kernel reads it: reshaped, then narrowed. -/
theorem kB_eq : kB m c = truncf .bf16 (shapeCast S2x256x256 (m ((c : Thread nD τ).loc main_arg2)) shapeCasts_S2x256x4x64_S2x256x256
    : FVec F S2x256x256 .f32) bitsLt_bf16_f32 := by
  refine (funext fun i => congrArg (V₁ m c (Proc.devRef .tc main_v2)) (emb2 i)).trans ?_
  show StableHlo.after hostOps0 (V₀ m c) (Proc.devRef .tc main_v2) = _
  unfold hostOps0
  after_reads_simp
  rfl
theorem vB_eq : vB m c = truncf .bf16 (shapeCast S2x256x256 (m ((c : Thread nD τ).loc main_arg3)) shapeCasts_S2x256x4x64_S2x256x256
    : FVec F S2x256x256 .f32) bitsLt_bf16_f32 := by
  refine (funext fun i => congrArg (V₁ m c (Proc.devRef .tc main_v4)) (emb3 i)).trans ?_
  show StableHlo.after hostOps0 (V₀ m c) (Proc.devRef .tc main_v4) = _
  unfold hostOps0
  after_reads_simp
  rfl

/-- The array of the result ends as what the kernel computed. -/
theorem out_eq : (dat0 m c).arrAt 5 cfg0.N = outV m c := by
  have e := (dat0 m c).arrAt_succ 5 t0_0
  rw [if_pos (flush0_5 t0_0)] at e
  refine (show (dat0 m c).arrAt 5 cfg0.N = (dat0 m c).arrAt 5 (t0_0.val + 1) from rfl).trans (e.trans ?_)
  funext i
  have h := (win0_5.blk t0_0).view.write_emb_of_mem (Val := Elt F) ((dat0 m c).arrAt 5 t0_0) ((dat0 m c).flushed 5 t0_0)
    (Finset.mem_univ i)
  rw [emb5] at h
  exact h

end Windows

section AtIdeal

variable (m : (b : Loc nD τ sig) → Buf (Elt Ideal) b) (c : Dev nD)

/-- K and V as the kernel reads them, at an index. -/
theorem kB_apply (b : Fin 2) (k : Fin 256) (h : Fin 4) (d : Fin 64) :
    kB m c (ix3 b k (col h d)) = m ((c : Thread nD τ).loc main_arg2) (ix4 b k h d) := by
  rw [kB_eq]
  refine shapeCast_apply _ _ (ix3 b k (col h d)) (ix4 b k h d) ?_
  rewrite [Shape.rowMajor_val_four, Shape.rowMajor_val_three]
  show ((b.val * 256 + k.val) * 4 + h.val) * 64 + d.val = (b.val * 256 + k.val) * 256 + (64 * h.val + d.val)
  omega
theorem vB_apply (b : Fin 2) (k : Fin 256) (h : Fin 4) (d : Fin 64) :
    vB m c (ix3 b k (col h d)) = m ((c : Thread nD τ).loc main_arg3) (ix4 b k h d) := by
  rw [vB_eq]
  refine shapeCast_apply _ _ (ix3 b k (col h d)) (ix4 b k h d) ?_
  rewrite [Shape.rowMajor_val_four, Shape.rowMajor_val_three]
  show ((b.val * 256 + k.val) * 4 + h.val) * 64 + d.val = (b.val * 256 + k.val) * 256 + (64 * h.val + d.val)
  omega

end AtIdeal

end Bsa

end
-- ==== Proof.Bsa.Mask.lean ====
/- The mask: which keys a query sees, as the kernel computes it on words and in plain numbers. -/
module

public import proofs.«01_k».proof.Proof.Bsa.Tables
public import proofs.«01_k».proof.Proof.Bsa.Vals
public import Idealize.ShloMosaic.Lib.Pointwise

@[expose] public section

set_option maxRecDepth 16384

noncomputable section

namespace Bsa

open Idealize.ShloMosaic Cert.KernelIdeal Cert.KernelIdeal.Gen

/-- The condition on block numbers: one block, or the first block of keys, or a sum that three divides. -/
@[reducible] def keepB (a b : ℕ) : Prop := (a = b ∨ b = 0) ∨ (a + b) % 3 = 0

/-- Query `i` sees key `j`: the condition on the numbers of their blocks of 64. -/
@[reducible] def keep (i j : ℕ) : Prop := keepB (i / 64) (j / 64)

/-- The word the kernel computes for the block number of a word `w`, on the device whose number is `o`. -/
def blockWord (w o : BitVec 32) : BitVec 32 :=
  IntOp.addi
    (Scalar.select
      (IntOp.andi
        (IntOp.cmpi .ne
          (IntOp.subi (BitVec.setWidth 32 (IntOp.cmpi .sgt w 0#32)) (BitVec.setWidth 32 (IntOp.cmpi .slt w 0#32)))
          (Scalar.subi (Scalar.extui (Scalar.cmpi .sgt 64#32 0#32)) (Scalar.extui (Scalar.cmpi .slt 64#32 0#32))))
        (IntOp.cmpi .ne (IntOp.remsi .vector w 64#32) 0#32))
      (IntOp.subi (IntOp.divsi .vector w 64#32) 1#32) (IntOp.divsi .vector w 64#32))
    (Scalar.muli o 4#32)

theorem blockNo_apply (v : IVec S256x256 32) (i : S256x256.Idx) (o : BitVec 32) :
    blockNo v o i = blockWord (v i) o := by
  pointwise [blockNo, blockWord]

/-- It is the block number of the row in the whole. -/
theorem blockWord_eq : ∀ (o : Fin 8) (r : Fin 256),
    blockWord (BitVec.ofNat 32 r.val) (BitVec.ofNat 32 o.val) = BitVec.ofNat 32 ((256 * o.val + r.val) / 64) := by
  decide +kernel

/-- The condition on two block numbers, on words. -/
theorem keepB_word : ∀ a b : Fin 32,
    (IntOp.ori
      (IntOp.ori (IntOp.cmpi .eq (BitVec.ofNat 32 a.val) (BitVec.ofNat 32 b.val))
        (IntOp.cmpi .eq (BitVec.ofNat 32 b.val) 0#32))
      (IntOp.cmpi .eq
        (IntOp.remsi .vector (IntOp.addi (BitVec.ofNat 32 a.val) (BitVec.ofNat 32 b.val)) 3#32) 0#32) = 1#1)
      ↔ keepB a.val b.val := by
  decide +kernel

/-- The kernel's mask at row `r` of device `c` and key `k` of device `o`. -/
theorem maskOf_apply (c o : Fin 8) (r k : Fin 256) :
    maskOf (BitVec.ofNat 32 c.val) (BitVec.ofNat 32 o.val) (ix2 r k) = 1#1
      ↔ keep (256 * c.val + r.val) (256 * o.val + k.val) := by
  have h0 : blockNo (iota .tc S256x256 32 [0] iota_S256x256_d0_w32) (BitVec.ofNat 32 c.val) (ix2 r k)
      = BitVec.ofNat 32 ((256 * c.val + r.val) / 64) := by
    rw [blockNo_apply, ← blockWord_eq]
    pointwise []
  have h1 : blockNo (iota .tc S256x256 32 [1] iota_S256x256_d1_w32) (BitVec.ofNat 32 o.val) (ix2 r k)
      = BitVec.ofNat 32 ((256 * o.val + k.val) / 64) := by
    rw [blockNo_apply, ← blockWord_eq]
    pointwise []
  have e := keepB_word ⟨(256 * c.val + r.val) / 64, by omega⟩ ⟨(256 * o.val + k.val) / 64, by omega⟩
  refine Iff.trans (Eq.congr_left ?_) e
  pointwise [maskOf]
  rw [h0, h1]

end Bsa

end
-- ==== Proof.Bsa.Score.lean ====
/- What both programs compute, in plain terms: the masked score of a query against a key, and the attention row. -/
module

public import proofs.«01_k».proof.Proof.Bsa.Mask
public import proofs.«01_k».proof.Proof.Bsa.RowValue

@[expose] public section

noncomputable section

namespace Bsa

open Idealize.ShloMosaic

/-- The score of query row `q`, number `i`, against key row `k`, number `j`: their product scaled by an eighth where
    the query sees the key, and minus a thousand million elsewhere. -/
def scoreOf (q k : Fin 64 → EReal) (i j : ℕ) : EReal :=
  if keep i j then (∑ d, q d * k d) * Ideal.ofBits .f32 0x3E000000#32 else Ideal.ofBits .f32 0xCE6E6B28#32

/-- A finite 32-bit word is a real number. -/
theorem isReal_scale : IsReal (Ideal.ofBits .f32 0x3E000000#32) := by
  refine ⟨8388608 * (2 ^ 26)⁻¹, ?_⟩
  simp [Ideal.ofBits, Ideal.ieee]

theorem isReal_masked : IsReal (Ideal.ofBits .f32 0xCE6E6B28#32) := by
  refine ⟨-(15625000 * 2 ^ 6), ?_⟩
  simp [Ideal.ofBits, Ideal.ieee]

theorem isReal_start : IsReal (Ideal.ofBits .f32 0xF149F2CA#32) := by
  refine ⟨-(13234890 * 2 ^ 76), ?_⟩
  simp [Ideal.ofBits, Ideal.ieee]

theorem zero_word : Ideal.ofBits .f32 0x00000000#32 = 0 := by
  simp [Ideal.ofBits, Ideal.ieee]

/-- Real rows have a real score. -/
theorem isReal_scoreOf (q k : Fin 64 → EReal) (i j : ℕ) (hq : ∀ d, IsReal (q d)) (hk : ∀ d, IsReal (k d)) :
    IsReal (scoreOf q k i j) := by
  unfold scoreOf
  split_ifs
  · exact (isReal_sum _ _ fun d => (hq d).mul (hk d)).mul isReal_scale
  · exact isReal_masked

theorem IsReal.coe_toReal {x : EReal} (h : IsReal x) : ((x.toReal : ℝ) : EReal) = x := by
  obtain ⟨r, rfl⟩ := h; rfl

end Bsa

end
-- ==== Proof.Bsa.KernelValue.lean ====
/- The kernel's output block read at an index: the softmax's weighted sum over every device's keys, head by head, by
   `Wo`. The blocks are taken in the order they arrive; the sum does not depend on it. -/
module

public import proofs.«01_k».proof.Proof.Bsa.Run
public import proofs.«01_k».proof.Proof.Bsa.Score

@[expose] public section

set_option maxRecDepth 16384

noncomputable section

namespace Bsa

open Idealize.ShloMosaic Idealize.ShloMosaic.TcCoe
open Cert.KernelIdeal Cert.KernelIdeal.Gen

variable (A : Fin 2 → Dev nD → Vec Ideal S2x256x256 .bf16) (c : Dev nD)
  (x : Vec Ideal S2x256x512 .f32) (wq : Vec Ideal S512x256 .f32) (wo : Vec Ideal S256x512 .f32)

/-- The query of head `h` at row `r` of the device's rows of batch entry `b`. -/
def queryK (b : Fin 2) (r : Fin 256) (h : Fin 4) (d : Fin 64) : EReal :=
  ∑ k : Fin 512, x (ix3 b r k) * wq (ix2 k (col h d))

/-- The score of row `r` of device `c` against key `k` of device `o`. -/
def scoreK (b : Fin 2) (h : Fin 4) (r : Fin 256) (o : Dev nD) (k : Fin 256) : EReal :=
  scoreOf (queryK x wq b r h) (fun d => A 0 o (ix3 b k (col h d))) (256 * c.val + r.val) (256 * o.val + k.val)

theorem entry_apply (X : Vec Ideal S2x256x256 .bf16) (b : Fin 2) (k n : Fin 256) : entry X b (ix2 k n) = X (ix3 b k n) :=
  congrArg X ((eq_ix3 _).trans rfl)

theorem chunkScore_apply (b : Fin 2) (h : Fin 4) (r : Fin 256) (o : Dev nD) (k : Fin 256) :
    scores b h (maskOf (devW c) (devW o)) (queries x wq) (entry (A 0 o) b) (ix2 r k) = scoreK A c x wq b h r o k := by
  rw [scores_apply]
  unfold scoreK scoreOf
  refine if_congr (maskOf_apply c o r k) ?_ rfl
  simp only [queries_apply, entry_apply]
  rfl

/-- The running state of a row, the scores being real: what `After` states, for whatever list of devices. -/
theorem run_after (hs : ∀ b h r o k, IsReal (scoreK A c x wq b h r o k)) (b : Fin 2) (h : Fin 4) (r : Fin 256)
    (l : List (Dev nD)) :
    After (fun o k => (scoreK A c x wq b h r o k).toReal) (fun o k d => A 1 o (ix3 b k (col h d))) l
      ((runSt A c (queries x wq) l b h).1 (ix2 r 0)) ((runSt A c (queries x wq) l b h).2.1 (ix2 r 0))
      (fun d : Fin 64 => (runSt A c (queries x wq) l b h).2.2 (ix2 r d)) := by
  induction l using List.reverseRecOn with
  | nil =>
    obtain ⟨M, hM⟩ := isReal_start
    have h0 := after_nil (fun o k => (scoreK A c x wq b h r o k).toReal)
      (fun o k (d : Fin 64) => A 1 o (ix3 b k (col h d))) M
    rw [← hM, ← zero_word] at h0
    exact h0
  | append_singleton l o ih =>
    have e : runSt A c (queries x wq) (l ++ [o]) b h
        = rowStep h (scores b h (maskOf (devW c) (devW o)) (queries x wq) (entry (A 0 o) b)) (entry (A 1 o) b)
            (runSt A c (queries x wq) l b h) := by
      unfold runSt
      rw [List.foldl_append]
      rfl
    have hM : IsReal (maxRow (runSt A c (queries x wq) l b h).1
        (scores b h (maskOf (devW c) (devW o)) (queries x wq) (entry (A 0 o) b)) (ix2 r 0)) := by
      rw [maxRow_apply]
      obtain ⟨M, hM, -⟩ := ih
      rw [hM]
      refine (isReal_coe M).max (isReal_fold_max _ Finset.univ_nonempty _ fun k => ?_)
      rw [chunkScore_apply]
      exact hs _ _ _ _ _
    have st := after_step _ _ l o _ _ _ ih _ hM
    rw [e]
    simp only [rowStep_den, rowStep_ctx, entry_apply, chunkScore_apply]
    simp only [(hs _ _ _ _ _).coe_toReal] at st
    exact st

/-- The kernel's output block. -/
theorem outBlk_apply (hs : ∀ b h r o k, IsReal (scoreK A c x wq b h r o k)) (b : Fin 2) (r : Fin 256) (n : Fin 512) :
    outBlk A c x wq wo (ix3 b r n)
      = ∑ h : Fin 4, ∑ d : Fin 64,
          weighted (fun p : Dev nD × Fin 256 => (scoreK A c x wq b h r p.1 p.2).toReal)
            (fun p => A 1 p.1 (ix3 b p.2 (col h d))) * wo (ix2 (col h d) n) := by
  have e : outBlk A c x wq wo (ix3 b r n)
      = outRows (runSt A c (queries x wq) (List.ofFn (order c)) b) wo (ix3 0 r n) := by
    unfold outBlk outArr
    exact congrArg _ ((eq_ix3 _).trans rfl)
  rw [e, outRows_apply]
  refine Finset.sum_congr rfl fun h _ => Finset.sum_congr rfl fun d _ =>
    congrArg (fun t : EReal => t * wo (ix2 (col h d) n)) ?_
  have key : ∀ l : List (Dev nD), l = List.ofFn (orderE c) →
      Ideal.div ((runSt A c (queries x wq) l b h).2.2 (ix2 r d)) ((runSt A c (queries x wq) l b h).2.1 (ix2 r 0))
        = weighted (fun p : Dev nD × Fin 256 => (scoreK A c x wq b h r p.1 p.2).toReal)
            (fun p => A 1 p.1 (ix3 b p.2 (col h d))) := by
    rintro l rfl
    exact after_all _ _ 8 (orderE c) _ _ _ (run_after A c x wq hs b h r _) d
  exact key _ rfl

end Bsa

end
-- ==== Proof.Bsa.RefMask.lean ====
/- The reference's mask, in plain numbers: it is the condition the kernel's mask computes, and every query keeps a key. -/
module

public import proofs.«01_k».proof.Proof.Bsa.Mask
public import proofs.«01_k».proof.Proof.Gen.ReferenceIdeal.Read

@[expose] public section

set_option maxRecDepth 16384

noncomputable section

namespace Bsa

open Idealize.ShloMosaic Cert.ReferenceIdeal Cert.ReferenceIdeal.Gen Cert.ReferenceIdeal.Read

/-- The sign of a word, as the reference computes it. -/
def signWord (w : BitVec 32) : BitVec 32 := if w = 0 then 0 else if w.msb then -1 else 1

/-- The word the reference computes for the block number of a word. -/
def refBlockWord (w : BitVec 32) : BitVec 32 :=
  Scalar.select
    (IntOp.andi (IntOp.cmpi .ne (signWord w) (signWord 64#32)) (IntOp.cmpi .ne (IntOp.remsi .host w 64#32) 0#32))
    (IntOp.subi (IntOp.divsi .host w 64#32) 1#32) (IntOp.divsi .host w 64#32)

theorem refBlockWord_eq : ∀ i : Fin 2048, refBlockWord (BitVec.ofNat 32 i.val) = BitVec.ofNat 32 (i.val / 64) := by
  decide +kernel

/-- The remainder by three of a word, as the reference computes it. -/
def refRemWord (w : BitVec 32) : BitVec 32 :=
  let d : BitVec 32 := Scalar.select (IntOp.cmpi .eq 3#32 0#32) 1#32 3#32
  let r : BitVec 32 := IntOp.remsi .host w d
  Scalar.select (IntOp.andi (IntOp.cmpi .ne (IntOp.cmpi .slt r 0#32) (IntOp.cmpi .slt d 0#32)) (IntOp.cmpi .ne r 0#32))
    (IntOp.addi r d) r

theorem refKeepB_word : ∀ a b : Fin 32,
    (IntOp.ori
      (IntOp.ori (IntOp.cmpi .eq (BitVec.ofNat 32 a.val) (BitVec.ofNat 32 b.val))
        (IntOp.cmpi .eq (BitVec.ofNat 32 b.val) 0#32))
      (IntOp.cmpi .eq (refRemWord (IntOp.addi (BitVec.ofNat 32 a.val) (BitVec.ofNat 32 b.val))) 0#32) = 1#1)
      ↔ keepB a.val b.val := by
  decide +kernel

theorem refRow_apply (i : S2048.Idx) : val_main_v3 (F := Ideal) i = refBlockWord (BitVec.ofNat 32 (i 0).val) := by
  simp only [val_main_v3_apply, val_main_call0_v11_apply, val_main_call0_v13_apply, val_main_call0_v12_apply,
    val_main_call0_v2_apply, val_main_call0_v1_apply, val_main_call0_v0_apply, val_main_call0_v5_apply,
    val_main_call0_v6_apply, val_main_call0_v7_apply, val_main_call0_v8_apply, val_main_call0_v9_apply,
    val_main_call0_v10_apply, val_main_call0_c_apply, val_main_call0_c_0_apply, val_main_c_apply, val_main_v2_apply]
  rfl

theorem refCol_apply (i : S2048.Idx) : val_main_v6 (F := Ideal) i = refBlockWord (BitVec.ofNat 32 (i 0).val) := by
  simp only [val_main_v6_apply, val_main_call1_v11_apply, val_main_call1_v13_apply, val_main_call1_v12_apply,
    val_main_call1_v2_apply, val_main_call1_v1_apply, val_main_call1_v0_apply, val_main_call1_v5_apply,
    val_main_call1_v6_apply, val_main_call1_v7_apply, val_main_call1_v8_apply, val_main_call1_v9_apply,
    val_main_call1_v10_apply, val_main_call1_c_apply, val_main_call1_c_0_apply, val_main_c_0_apply, val_main_v5_apply]
  rfl

theorem refRem_apply (i : S2048x2048.Idx) : val_main_v18 (F := Ideal) i = refRemWord (val_main_v17 (F := Ideal) i) := by
  simp only [val_main_v18_apply, val_main_call2_v12_apply, val_main_call2_v14_apply, val_main_call2_v13_apply,
    val_main_call2_v11_apply, val_main_call2_v10_apply, val_main_call2_v9_apply, val_main_call2_v8_apply,
    val_main_call2_v7_apply, val_main_call2_v6_apply, val_main_call2_v5_apply, val_main_call2_v4_apply,
    val_main_call2_v3_apply, val_main_call2_v2_apply, val_main_call2_v1_apply, val_main_call2_v0_apply,
    val_main_call2_c_apply, val_main_call2_c_0_apply, val_main_call2_c_1_apply, val_main_call2_c_2_apply,
    val_main_call2_c_3_apply, val_main_c_2_apply]
  rfl

/-- The reference's mask at query `i` and key `j`. -/
theorem refMask_apply (i : S2048x2048.Idx) : val_main_v21 (F := Ideal) i = 1#1 ↔ keep (i 0).val (i 1).val := by
  have h0 : (i 0).val < 2048 := (i 0).isLt
  have h1 : (i 1).val < 2048 := (i 1).isLt
  have e := refKeepB_word ⟨(i 0).val / 64, by omega⟩ ⟨(i 1).val / 64, by omega⟩
  have r0 := refBlockWord_eq ⟨(i 0).val, h0⟩
  have r1 := refBlockWord_eq ⟨(i 1).val, h1⟩
  dsimp only at e r0 r1
  rw [← r0, ← r1] at e
  refine Iff.trans (Eq.congr_left ?_) e
  simp only [val_main_v21_apply, val_main_v14_apply, val_main_v20_apply, val_main_v10_apply, val_main_v13_apply,
    val_main_v12_apply, val_main_v11_apply, val_main_v8_apply, val_main_v9_apply, val_main_v4_apply, val_main_v7_apply,
    val_main_v19_apply, refRem_apply, val_main_v17_apply, val_main_v15_apply, val_main_v16_apply, val_main_c_1_apply,
    val_main_c_3_apply, refRow_apply, refCol_apply]

/-- Or over bits one of which is set. -/
theorem fold_or_one {J : Type} (s : Finset J) (f : J → BitVec 1) (a : J) (ha : a ∈ s) (h : f a = 1#1) (b : BitVec 1) :
    s.fold IntOp.ori b f = 1#1 := by
  classical
  rw [← Finset.insert_erase ha, Finset.fold_insert (Finset.notMem_erase a s), h]
  generalize (s.erase a).fold IntOp.ori b f = y
  revert y; decide

/-- Every query keeps the first key, so it keeps one. -/
theorem refKeep_apply (i : S2048.Idx) : val_main_v32 (F := Ideal) i = 1#1 := by
  have hr : S2048x2048.Reduces [1] S2048 := by decide
  unfold val_main_v32
  rw [Host.reduce_eq_fold_single IntOp.ori _ _ _ hr]
  refine fold_or_one _ _ (⟨0, by decide⟩ : Fin 2048) (Finset.mem_univ _) ?_ _
  refine (refMask_apply _).2 (Or.inl (Or.inr ?_))
  exact congrArg (· / 64) (show hr.liftVal i 0 1 = 0 from dif_pos rfl)

end Bsa

end
-- ==== Proof.Bsa.RefValue.lean ====
/- The reference's result read at an index: the softmax's weighted sum over all the keys, head by head, by `Wo`. -/
module

public import proofs.«01_k».proof.Proof.Bsa.RefMask
public import proofs.«01_k».proof.Proof.Bsa.Score

@[expose] public section

set_option maxRecDepth 16384

noncomputable section

namespace Bsa

open Idealize.ShloMosaic Cert.ReferenceIdeal Cert.ReferenceIdeal.Gen Cert.ReferenceIdeal.Read

variable (x : Vec Ideal S2x2048x512 .f32) (wq : Vec Ideal S512x256 .f32) (K V : Vec Ideal S2x2048x4x64 .f32)
  (wo : Vec Ideal S256x512 .f32)

/-- The query of head `h` at row `i` of batch entry `b`. -/
def queryR (b : Fin 2) (i : Fin 2048) (h : Fin 4) (d : Fin 64) : EReal :=
  ∑ k : Fin 512, x (ix3 b i k) * wq (ix2 k (col h d))

/-- The score of query `i` against key `j`. -/
def scoreR (b : Fin 2) (h : Fin 4) (i j : Fin 2048) : EReal :=
  scoreOf (queryR x wq b i h) (fun d => K (ix4 b j h d)) i.val j.val

theorem refQuery_apply (b : Fin 2) (i : Fin 2048) (h : Fin 4) (d : Fin 64) :
    val_main_v1 (F := Ideal) x wq (ix4 b i h d) = queryR x wq b i h d := by
  have hb := b.isLt; have hi := i.isLt; have hh := h.isLt; have hd := d.isLt
  have e : idx_main_v1 (ix4 b i h d) = ix3 b i (col h d) := by
    funext a
    apply Fin.ext
    match a with
    | ⟨0, _⟩ => show (((b.val * 2048 + i.val) * 4 + h.val) * 64 + d.val) / 524288 = b.val; omega
    | ⟨1, _⟩ => show (((b.val * 2048 + i.val) * 4 + h.val) * 64 + d.val) / 256 % 2048 = i.val; omega
    | ⟨2, _⟩ => show (((b.val * 2048 + i.val) * 4 + h.val) * 64 + d.val) % 256 = 64 * h.val + d.val; omega
  rw [val_main_v1_apply, e, val_main_v0_apply]
  refine Finset.sum_congr rfl fun k _ => congrArg₂ (fun p q => x p * wq q) ?_ ?_
  · exact (eq_ix3 _).trans rfl
  · exact (eq_ix2 _).trans rfl

theorem refScore_apply (b : Fin 2) (h : Fin 4) (i j : Fin 2048) :
    val_main_v26 (F := Ideal) x wq K (ix4 b h i j) = scoreR x wq K b h i j := by
  have hm := refMask_apply (idx_main_v25 (idx_main_call3_v1 (ix4 b h i j)))
  have hs : val_main_v22 (F := Ideal) x wq K (ix4 b h i j) = ∑ d, queryR x wq b i h d * K (ix4 b j h d) := by
    rw [val_main_v22_apply]
    refine Finset.sum_congr rfl fun d _ => ?_
    have e1 : lidx_main_v22 (ix4 b h i j) d = ix4 b i h d := (eq_ix4 _).trans rfl
    have e2 : ridx_main_v22 (ix4 b h i j) d = ix4 b j h d := (eq_ix4 _).trans rfl
    rw [e1, e2, refQuery_apply]
  rw [val_main_v26_apply, val_main_call3_v1_apply, val_main_v25_apply, val_main_v24_apply, hs, val_main_v23_apply,
    val_main_cst_apply, val_main_call3_v2_apply, val_main_call3_v0_apply, val_main_cst_4_apply]
  unfold scoreR scoreOf Scalar.select
  exact if_congr hm rfl rfl

/-- The reference's maximum of a row of real scores is real. -/
theorem refMax_real (hs : ∀ b h i j, IsReal (scoreR x wq K b h i j)) (i : S2x4x2048.Idx) :
    IsReal (val_main_v27 (F := Ideal) x wq K i) := by
  have hr : S2x4x2048x2048.Reduces [3] S2x4x2048 := by decide
  have hall : ∀ q : S2x4x2048x2048.Idx, IsReal (val_main_v26 (F := Ideal) x wq K q) := fun q => by
    have e : val_main_v26 (F := Ideal) x wq K q = scoreR x wq K (q 0) (q 1) (q 2) (q 3) :=
      (congrArg _ (eq_ix4 q)).trans (refScore_apply x wq K _ _ _ _)
    rw [e]
    exact hs _ _ _ _
  unfold val_main_v27
  rw [Host.reduce_eq_fold_single _ _ _ _ hr]
  have e : (val_main_cst_5 (F := Ideal)) (Shape.Idx.first h_S_) = ⊥ := neg_inf
  rw [e]
  refine isReal_fold_max _ ⟨(⟨0, by decide⟩ : Fin 2048), Finset.mem_univ _⟩ _ fun j => ?_
  exact hall _

/-- The reference's weight of key `j`. -/
theorem refWeight_apply (b : Fin 2) (h : Fin 4) (i j : Fin 2048) :
    val_main_v40 (F := Ideal) x wq K (ix4 b h i j)
      = Ideal.div (Ideal.exp (scoreR x wq K b h i j - val_main_v27 (F := Ideal) x wq K (ix3 b h i)))
          (∑ j', Ideal.exp (scoreR x wq K b h i j' - val_main_v27 (F := Ideal) x wq K (ix3 b h i))) := by
  have he : ∀ j, val_main_v31 (F := Ideal) x wq K (ix4 b h i j)
      = Ideal.exp (scoreR x wq K b h i j - val_main_v27 (F := Ideal) x wq K (ix3 b h i)) := fun j => by
    rw [val_main_v31_apply, val_main_v30_apply, refScore_apply, val_main_v29_apply, val_main_v28_apply]
    have e : idx_main_v28 (idx_main_v29 (ix4 b h i j)) = ix3 b h i := (eq_ix3 _).trans rfl
    rw [e]
    rfl
  have hd : val_main_v37 (F := Ideal) x wq K (ix4 b h i j)
      = ∑ j', Ideal.exp (scoreR x wq K b h i j' - val_main_v27 (F := Ideal) x wq K (ix3 b h i)) := by
    rw [val_main_v37_apply, val_main_v36_apply, val_main_call4_v1_apply, val_main_v33_apply, refKeep_apply,
      val_main_v35_apply, val_main_v34_apply]
    have e0 : (val_main_cst_7 (F := Ideal)) (Shape.Idx.first h_S_) = 0 := zero_word
    rw [e0, zero_add]
    refine (if_pos rfl).trans (Finset.sum_congr rfl fun j' _ => ?_)
    exact (congrArg _ ((eq_ix4 _).trans rfl)).trans (he j')
  rw [val_main_v40_apply, val_main_call5_v1_apply, val_main_v39_apply, refKeep_apply, val_main_v38_apply, he, hd]
  exact if_pos rfl

/-- The reference's result, the scores being real. -/
theorem ref_apply (hs : ∀ b h i j, IsReal (scoreR x wq K b h i j)) (b : Fin 2) (i : Fin 2048) (n : Fin 512) :
    val_main_v44 (F := Ideal) x wq K V wo (ix3 b i n)
      = ∑ h : Fin 4, ∑ d : Fin 64, weighted (fun j => (scoreR x wq K b h i j).toReal) (fun j => V (ix4 b j h d))
          * wo (ix2 (col h d) n) := by
  rw [val_main_v44_apply, sum_cols]
  refine Finset.sum_congr rfl fun h _ => Finset.sum_congr rfl fun d _ => ?_
  have hb := b.isLt; have hi := i.isLt; have hh := h.isLt; have hd := d.isLt
  have e1 : ridx_main_v44 (ix3 b i n) (col h d) = ix2 (col h d) n := (eq_ix2 _).trans rfl
  have e2 : idx_main_v43 (lidx_main_v44 (ix3 b i n) (col h d)) = ix4 b i h d := by
    funext a
    apply Fin.ext
    match a with
    | ⟨0, _⟩ => show ((b.val * 2048 + i.val) * 256 + (64 * h.val + d.val)) / 524288 = b.val; omega
    | ⟨1, _⟩ => show ((b.val * 2048 + i.val) * 256 + (64 * h.val + d.val)) / 256 % 2048 = i.val; omega
    | ⟨2, _⟩ => show ((b.val * 2048 + i.val) * 256 + (64 * h.val + d.val)) / 64 % 4 = h.val; omega
    | ⟨3, _⟩ => show ((b.val * 2048 + i.val) * 256 + (64 * h.val + d.val)) % 64 = d.val; omega
  have e3 : idx_main_v42 (ix4 b i h d) = ix4 b h d i := (eq_ix4 _).trans rfl
  rw [e1, val_main_v43_apply, e2, val_main_v42_apply, e3, val_main_v41_apply]
  refine congrArg (· * _) ?_
  obtain ⟨M, hM⟩ := refMax_real x wq K hs (ix3 b h i)
  rw [← weights_eq (fun j => (scoreR x wq K b h i j).toReal) (fun j => V (ix4 b j h d)) M]
  refine Finset.sum_congr rfl fun j _ => ?_
  have e4 : lidx_main_v41 (ix4 b h d i) j = ix4 b j h d := (eq_ix4 _).trans rfl
  have e5 : ridx_main_v41 (ix4 b h d i) j = ix4 b h i j := (eq_ix4 _).trans rfl
  rw [e4, e5, refWeight_apply, hM]
  simp only [(hs _ _ _ _).coe_toReal]

end Bsa

end
-- ==== Proof.Bsa.Equation.lean ====
/- The kernel's block of the result is the reference's, where the kernel's arrays are blocks of the reference's: the keys of
   eight devices are the keys of the whole array, in another arrangement. -/
module

public import proofs.«01_k».proof.Proof.Bsa.KernelValue
public import proofs.«01_k».proof.Proof.Bsa.RefValue

@[expose] public section

set_option maxRecDepth 16384

noncomputable section

namespace Bsa

open Idealize.ShloMosaic Idealize.ShloMosaic.TcCoe
open Cert.KernelIdeal Cert.KernelIdeal.Gen
open Cert.ReferenceIdeal.Read

/-- Row `r` of device `c`, as a row of the whole array. -/
def rowAt (c : Dev nD) (r : Fin 256) : Fin 2048 :=
  ⟨256 * c.val + r.val, by have h1 : c.val < 8 := c.isLt; have h2 := r.isLt; omega⟩

/-- The rows of the eight devices are the rows of the whole array. -/
def rows : Dev nD × Fin 256 ≃ Fin 2048 := finProdFinEquiv (m := 8) (n := 256)

theorem rows_apply (p : Dev nD × Fin 256) : rows p = rowAt p.1 p.2 := Fin.ext (Nat.add_comm _ _)

/-- Every row of the whole array is some device's. -/
theorem exists_rowAt (j : Fin 2048) : ∃ c r, j = rowAt c r :=
  ⟨(rows.symm j).1, (rows.symm j).2, (rows.apply_symm_apply j).symm.trans (rows_apply _)⟩

variable (A : Fin 2 → Dev nD → Vec Ideal S2x256x256 .bf16) (c : Dev nD) (x : Vec Ideal S2x256x512 .f32)
  (X : Vec Ideal ⟨3, ![2, 2048, 512]⟩ .f32) (wq : Vec Ideal S512x256 .f32)
  (K V : Vec Ideal ⟨4, ![2, 2048, 4, 64]⟩ .f32) (wo : Vec Ideal S256x512 .f32)

section

variable (hx : ∀ b r k, x (ix3 b r k) = X (ix3 b (rowAt c r) k))
  (hK : ∀ o b k h d, A 0 o (ix3 b k (col h d)) = K (ix4 b (rowAt o k) h d))

include hx in
theorem query_eq (b : Fin 2) (r : Fin 256) (h : Fin 4) (d : Fin 64) :
    queryK x wq b r h d = queryR X wq b (rowAt c r) h d := by
  unfold queryK queryR
  exact Finset.sum_congr rfl fun k _ => by rw [hx]

include hx hK in
/-- The kernel's scores are the reference's. -/
theorem score_eq (b : Fin 2) (h : Fin 4) (r : Fin 256) (o : Dev nD) (k : Fin 256) :
    scoreK A c x wq b h r o k = scoreR X wq K b h (rowAt c r) (rowAt o k) := by
  unfold scoreK scoreR
  rw [show queryK x wq b r h = queryR X wq b (rowAt c r) h from funext fun d => query_eq c x X wq hx b r h d,
    show (fun d => A 0 o (ix3 b k (col h d))) = (fun d => K (ix4 b (rowAt o k) h d)) from funext fun d => hK o b k h d]
  rfl

/-- The reference's scores are real numbers where `x`, `Wq` and `K` are. -/
theorem isReal_scoreR (hX : ∀ i, IsReal (X i)) (hq : ∀ i, IsReal (wq i)) (hr : ∀ i, IsReal (K i)) (b : Fin 2) (h : Fin 4)
    (i j : Fin 2048) : IsReal (scoreR X wq K b h i j) :=
  isReal_scoreOf _ _ _ _ (fun d => isReal_sum _ _ fun k => (hX _).mul (hq _)) (fun d => hr _)

include hx hK in
/-- The kernel's block of the result, at an index, is the reference's result there. -/
theorem block_eq (hV : ∀ o b k h d, A 1 o (ix3 b k (col h d)) = V (ix4 b (rowAt o k) h d))
    (hX : ∀ i, IsReal (X i)) (hq : ∀ i, IsReal (wq i)) (hr : ∀ i, IsReal (K i)) (b : Fin 2) (r : Fin 256) (n : Fin 512) :
    outBlk A c x wq wo (ix3 b r n) = val_main_v44 (F := Ideal) X wq K V wo (ix3 b (rowAt c r) n) := by
  have hs := isReal_scoreR X wq K hX hq hr
  refine (outBlk_apply A c x wq wo (fun b h r o k => by rw [score_eq A c x X wq K hx hK]; exact hs _ _ _ _) b r n).trans
    (Eq.trans ?_ (ref_apply X wq K V wo hs b (rowAt c r) n).symm)
  refine Finset.sum_congr rfl fun h _ => Finset.sum_congr rfl fun d _ => ?_
  refine congrArg (fun t : EReal => t * wo (ix2 (col h d) n)) ?_
  refine Eq.trans ?_ (weighted_equiv _ _ rows)
  refine congrArg₂ (fun s v => weighted s v) (funext fun p => ?_) (funext fun p => ?_)
  · rw [rows_apply, score_eq A c x X wq K hx hK]
  · rw [rows_apply, hV]

end

end Bsa

end
-- ==== Proof.Bsa.Finite.lean ====
/- The precondition read at an index: every element of an array whose magnitude is below `+∞` is a real number. -/
module

public import proofs.«01_k».proof.Defs
public import proofs.«01_k».proof.Proof.Bsa.Soft
public import Idealize.ShloMosaic.Lib.Pointwise.Select

@[expose] public section

noncomputable section

namespace Bsa

open Idealize.ShloMosaic

/-- An extended real whose magnitude compares below `+∞` is a real number. -/
theorem isReal_of_below (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := (Ideal.cmp_olt_eq_one _ _).1 h
  rw [max_lt_iff] at hlt
  refine ⟨x.toReal, (EReal.coe_toReal hlt.1.ne ?_).symm⟩
  rintro rfl
  exact absurd hlt.2 (by simp)

/-- The side conditions of the precondition's operations, on a device and on the whole arrays. -/
theorem facts_device : Cert.Pre_finite_KernelIdeal.Facts := ⟨by decide, by decide, by decide⟩
theorem facts_whole : Cert.Pre_finite_ReferenceIdeal.Facts := ⟨by decide, by decide, by decide⟩

/-- What the precondition says of a device: its part of `x`, `Wq` and its part of `K` hold real numbers. -/
theorem finite_read (m : (ℓ : Loc Cert.KernelIdeal.nD Cert.KernelIdeal.τ Cert.KernelIdeal.sig) → Buf (Elt Ideal) ℓ)
    (h : Cert.Pre_KernelIdeal_finite_KernelIdeal (hPre_finite_KernelIdeal := facts_device) m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i)) :=
  ⟨fun i => isReal_of_below _ (congrFun (h c).1 i), fun i => isReal_of_below _ (congrFun (h c).2.1 i),
    fun i => isReal_of_below _ (congrFun (h c).2.2 i)⟩

end Bsa

end
-- ==== Proof.Bsa.Algebraic.lean ====
/- The value claim: over the extended reals each device's result is its block of the reference's result. -/
module

public import proofs.«01_k».proof.Proof.Bsa.Frames
public import proofs.«01_k».proof.Proof.Bsa.Whole
public import proofs.«01_k».proof.Proof.Bsa.Equation
public import proofs.«01_k».proof.Proof.Bsa.Finite

@[expose] public section

set_option maxRecDepth 16384

noncomputable section

namespace Bsa

open Idealize.ShloMosaic Idealize.ShloMosaic.TcCoe
open Cert.KernelIdeal Cert.KernelIdeal.Gen
open Cert.ReferenceIdeal.Read

/-- Where an element of a device's block is in the whole array, of three axes and of four. -/
theorem idx3 (h : Layout.Tiles ⟨3, ![2, 256, 512]⟩ ⟨3, ![2, 2048, 512]⟩ 1 8) (c : Dev nD) (b : Fin 2) (r : Fin 256)
    (k : Fin 512) : h.idx c (ix3 b r k) = ix3 b (rowAt c r) k := by
  funext a; apply Fin.ext; rw [Layout.Tiles.idx_val]
  match a with
  | ⟨0, _⟩ => rfl
  | ⟨1, _⟩ => exact congrArg (· + r.val) (Nat.mul_comm c.val 256)
  | ⟨2, _⟩ => rfl
theorem idx4 (h : Layout.Tiles ⟨4, ![2, 256, 4, 64]⟩ ⟨4, ![2, 2048, 4, 64]⟩ 1 8) (c : Dev nD) (b : Fin 2) (r : Fin 256)
    (g : Fin 4) (d : Fin 64) : h.idx c (ix4 b r g d) = ix4 b (rowAt c r) g d := by
  funext a; apply Fin.ext; rw [Layout.Tiles.idx_val]
  match a with
  | ⟨0, _⟩ => rfl
  | ⟨1, _⟩ => exact congrArg (· + r.val) (Nat.mul_comm c.val 256)
  | ⟨2, _⟩ => rfl
  | ⟨3, _⟩ => rfl

theorem block3_apply (c : Dev nD) (X : Vec Ideal ⟨3, ![2, 2048, 512]⟩ .f32) (b : Fin 2) (r : Fin 256) (k : Fin 512) :
    Layout.block ⟨3, ![2, 256, 512]⟩ ⟨3, ![2, 2048, 512]⟩ 1 8 c X (by decide) (ix3 b r k) = X (ix3 b (rowAt c r) k) :=
  congrArg X (idx3 _ c b r k)
theorem block4_apply (c : Dev nD) (X : Vec Ideal ⟨4, ![2, 2048, 4, 64]⟩ .f32) (b : Fin 2) (r : Fin 256) (g : Fin 4)
    (d : Fin 64) : Layout.block ⟨4, ![2, 256, 4, 64]⟩ ⟨4, ![2, 2048, 4, 64]⟩ 1 8 c X (by decide) (ix4 b r g d)
      = X (ix4 b (rowAt c r) g d) :=
  congrArg X (idx4 _ c b r g d)

/-- An array whose blocks hold real numbers holds real numbers. -/
theorem isReal_whole3 (X : Vec Ideal ⟨3, ![2, 2048, 512]⟩ .f32) (x : Dev nD → Vec Ideal S2x256x512 .f32)
    (hx : ∀ c, x c = Layout.block ⟨3, ![2, 256, 512]⟩ ⟨3, ![2, 2048, 512]⟩ 1 8 c X) (hr : ∀ c i, IsReal (x c i)) (i) :
    IsReal (X i) := by
  have key : ∀ (b : Fin 2) (j : Fin 2048) (k : Fin 512), IsReal (X (ix3 b j k)) := by
    intro b j k
    obtain ⟨c, r, rfl⟩ := exists_rowAt j
    have h := hr c (ix3 b r k)
    rw [hx, block3_apply] at h
    exact h
  obtain ⟨v, hv⟩ := key (i 0) (i 1) (i 2)
  exact ⟨v, (congrArg X (eq_ix3 i)).trans hv⟩
theorem isReal_whole4 (X : Vec Ideal ⟨4, ![2, 2048, 4, 64]⟩ .f32) (x : Dev nD → Vec Ideal S2x256x4x64 .f32)
    (hx : ∀ c, x c = Layout.block ⟨4, ![2, 256, 4, 64]⟩ ⟨4, ![2, 2048, 4, 64]⟩ 1 8 c X) (hr : ∀ c i, IsReal (x c i)) (i) :
    IsReal (X i) := by
  have key : ∀ (b : Fin 2) (j : Fin 2048) (g : Fin 4) (d : Fin 64), IsReal (X (ix4 b j g d)) := by
    intro b j g d
    obtain ⟨c, r, rfl⟩ := exists_rowAt j
    have h := hr c (ix4 b r g d)
    rw [hx, block4_apply] at h
    exact h
  obtain ⟨v, hv⟩ := key (i 0) (i 1) (i 2) (i 3)
  exact ⟨v, (congrArg X (eq_ix4 i)).trans hv⟩

section

variable (m : (b : Loc nD τ sig) → Buf (Elt Ideal) b)
  (X : Vec Ideal ⟨3, ![2, 2048, 512]⟩ .f32) (wq : Vec Ideal S512x256 .f32)
  (K V : Vec Ideal ⟨4, ![2, 2048, 4, 64]⟩ .f32) (wo : Vec Ideal S256x512 .f32)

/-- What a device computes is its block of the reference's result, its arguments being blocks of the reference's. -/
theorem out_block (hx : ∀ c : Dev nD, m ((c : Thread nD τ).loc main_arg0) = Layout.block ⟨3, ![2, 256, 512]⟩ ⟨3, ![2, 2048, 512]⟩ 1 8 c X)
    (hq : ∀ c : Dev nD, m ((c : Thread nD τ).loc main_arg1) = wq)
    (hK : ∀ c : Dev nD, m ((c : Thread nD τ).loc main_arg2) = Layout.block ⟨4, ![2, 256, 4, 64]⟩ ⟨4, ![2, 2048, 4, 64]⟩ 1 8 c K)
    (hV : ∀ c : Dev nD, m ((c : Thread nD τ).loc main_arg3) = Layout.block ⟨4, ![2, 256, 4, 64]⟩ ⟨4, ![2, 2048, 4, 64]⟩ 1 8 c V)
    (ho : ∀ c : Dev nD, m ((c : Thread nD τ).loc main_arg4) = wo)
    (rX : ∀ i, IsReal (X i)) (rq : ∀ i, IsReal (wq i)) (rK : ∀ i, IsReal (K i)) (c : Dev nD) :
    outV m c = Layout.block ⟨3, ![2, 256, 512]⟩ ⟨3, ![2, 2048, 512]⟩ 1 8 c (val_main_v44 (F := Ideal) X wq K V wo) := by
  funext i
  have e : outV m c = outBlk (AA m) c (Layout.block ⟨3, ![2, 256, 512]⟩ ⟨3, ![2, 2048, 512]⟩ 1 8 c X) wq wo := by
    unfold outV
    rw [xB_eq, wqB_eq, woB_eq, hx, hq, ho]
  rw [e, eq_ix3 i]
  refine (block_eq (AA m) c _ X wq K V wo (fun b r k => block3_apply c X b r k) (fun o b k h d => ?_) (fun o b k h d => ?_)
    rX rq rK (i 0) (i 1) (i 2)).trans (block3_apply c _ (i 0) (i 1) (i 2)).symm
  · exact (kB_apply m o b k h d).trans ((congrFun (hK o) _).trans (block4_apply o K b k h d))
  · exact (vB_apply m o b k h d).trans ((congrFun (hV o) _).trans (block4_apply o V b k h d))

end

/-- The value claim. -/
theorem algebraic : Cert.algebraic_KernelIdeal_ReferenceIdeal_pre_finite_KernelIdeal
    (hKernelIdeal := Cert.KernelIdeal.Gen.facts) (hReferenceIdeal := Cert.ReferenceIdeal.Gen.facts)
    (hPre_finite_KernelIdeal := facts_device) := by
  intro m g m' g' hp ha
  have hf := finite_read m hp
  have key := out_block m _ _ _ _ _ (fun c => (ha c).1) (fun c => (ha c).2.1) (fun c => (ha c).2.2.1)
    (fun c => (ha c).2.2.2.1) (fun c => (ha c).2.2.2.2)
    (isReal_whole3 _ _ (fun c => (ha c).1) (fun c => (hf c).1))
    (fun i => by
      have h := (hf 0).2.1 i
      rw [(ha 0).2.1] at h
      exact h)
    (isReal_whole4 _ _ (fun c => (ha c).2.2.1) (fun c => (hf c).2.2))
  refine ⟨val_main_v44 (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)),
    (θ_run (Cert.KernelIdeal.defs (F := Ideal)) _ _).mono (fun r h c => ?_) (run_main (F := Ideal) m g),
    (θ_run (Cert.ReferenceIdeal.defs (F := Ideal)) _ _).mono (fun r h => ?_) (Cert.ReferenceIdeal.Value.run (F := Ideal) m' g')⟩
  · obtain ⟨h0, h1, h2, h3, h4, h5⟩ := h.1 c
    exact ⟨h5.trans ((out_eq m c).trans (key c)), h0, h1, h2, h3, h4⟩
  · exact ⟨(h 0).1.trans (val_main_v44_eq m' 0), (h 0).2⟩

end Bsa

end
-- ==== Proof.lean ====
/- The certificate: each claim, from the module that proves it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Bsa.Frames
public import proofs.«01_k».proof.Proof.Bsa.Algebraic
public import Idealize.ShloMosaic.Adequacy
public import Idealize.ShloMosaic.Init

@[expose] public section

noncomputable section

namespace Cert.Proof

open Idealize.ShloMosaic Idealize.SL.Sem Cert.Kernel

/-- The certificate's claims: the kernel, its idealization and the reference each run and end with every counter at zero
    (under the precondition too, which those proofs do not use), and over the extended reals the kernel computes its block
    of the reference's result. -/
theorem claim : Cert.Claim := ⟨Cert.Kernel.Gen.facts, Cert.KernelIdeal.Gen.facts, Cert.ReferenceIdeal.Gen.facts,
  Bsa.facts_device, Bsa.facts_whole, Bsa.frame_kernel, Bsa.frame_kernelIdeal,
  fun m g _ => Bsa.frame_kernelIdeal m g True.intro, Bsa.frame_reference,
  fun m g _ => Bsa.frame_reference m g True.intro, True.intro, Bsa.algebraic⟩

end Cert.Proof

end
